-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.2.1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2.2.2 = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v144) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_tables_in_range : Cert.Pre_tables_in_range.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
-- ==== Pre_finite_scores.lean ====
abbrev S8x4096x16x64 : Shape := ⟨4, ![8, 4096, 16, 64]⟩
abbrev S8x4096x4x64 : Shape := ⟨4, ![8, 4096, 4, 64]⟩
abbrev S8x4096x2048 : Shape := ⟨3, ![8, 4096, 2048]⟩
abbrev S32x16 : Shape := ⟨2, ![32, 16]⟩
abbrev S16 : Shape := ⟨1, ![16]⟩
abbrev S_ : Shape := ⟨0, ![]⟩

class Facts : Prop where
  bcast_S_S8x4096x16x64 : S_.BroadcastsInDim S8x4096x16x64 (![] : Fin 0 → Fin S8x4096x16x64.rank)
  bcast_S_S8x4096x4x64 : S_.BroadcastsInDim S8x4096x4x64 (![] : Fin 0 → Fin S8x4096x4x64.rank)
  bcast_S_S32x16 : S_.BroadcastsInDim S32x16 (![] : Fin 0 → Fin S32x16.rank)
  bcast_S_S16 : S_.BroadcastsInDim S16 (![] : Fin 0 → Fin S16.rank)

variable [Facts]

def fn {F : FTy → Type} [FloatOps F] (main_arg0 : FVec F S8x4096x16x64 .f32) (main_arg1 : FVec F S8x4096x4x64 .f32) (main_arg2 : FVec F S8x4096x4x64 .f32) (main_arg3 : FVec F S8x4096x2048 .f32) (main_arg4 : FVec F S32x16 .f32) (main_arg5 : FVec F S16 .f32) : IVec S8x4096x16x64 1 × IVec S8x4096x4x64 1 × IVec S32x16 1 × IVec S16 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_v3 : FVec F S8x4096x4x64 .f32 := Host.absf main_arg1
  let main_cst_0 : FVec F S_ .f32 := constant S_ .f32 0x7F800000#32
  let main_v4 : FVec F S8x4096x4x64 .f32 := broadcastInDim S8x4096x4x64 ![] bcast_S_S8x4096x4x64 main_cst_0
  let main_v5 : IVec S8x4096x4x64 1 := cmpf .olt main_v3 main_v4
  let main_v6 : FVec F S32x16 .f32 := Host.absf main_arg4
  let main_cst_1 : FVec F S_ .f32 := constant S_ .f32 0x7F800000#32
  let main_v7 : FVec F S32x16 .f32 := broadcastInDim S32x16 ![] bcast_S_S32x16 main_cst_1
  let main_v8 : IVec S32x16 1 := cmpf .olt main_v6 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Pre_tables_in_range.lean ====
abbrev S589824x128 : Shape := ⟨2, ![589824, 128]⟩
abbrev S72 : Shape := ⟨1, ![72]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S72 : S_.BroadcastsInDim S72 (![] : Fin 0 → Fin S72.rank)
  bcast_S_S1 : S_.BroadcastsInDim S1 (![] : Fin 0 → Fin S1.rank)

variable [Facts]

def fn {F : FTy → Type} [FloatOps F] (main_arg0 : FVec F S589824x128 .f32) (main_arg1 : IVec S72 32) (main_arg2 : IVec S1 32) (main_arg3 : FVec F S2x8x1024x3584 .f32) (main_arg4 : FVec F S2x8x1024x3584 .f32) (main_arg5 : FVec F S2x8x3584x1024 .f32) : IVec S72 1 × IVec S72 1 × IVec S1 1 × IVec S1 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_c_1 : IVec S_ 32 := constantI S_ 32 1#32
  let main_v4 : IVec S1 32 := broadcastInDim S1 ![] bcast_S_S1 main_c_1
  let main_v5 : IVec S1 1 := cmpi .sge main_arg2 main_v4
  let main_c_2 : IVec S_ 32 := constantI S_ 32 72#32
  let main_v6 : IVec S1 32 := broadcastInDim S1 ![] bcast_S_S1 main_c_2
  let main_v7 : IVec S1 1 := cmpi .sle main_arg2 main_v6
  (main_v1, main_v3, main_v5, main_v7)
-- ==== Kernel.lean ====
abbrev S8x4096x16x64 : Shape := ⟨4, ![8, 4096, 16, 64]⟩
abbrev S8x4096x4x64 : Shape := ⟨4, ![8, 4096, 4, 64]⟩
abbrev S8x4096x2048 : Shape := ⟨3, ![8, 4096, 2048]⟩
abbrev S32x16 : Shape := ⟨2, ![32, 16]⟩
abbrev S16 : Shape := ⟨1, ![16]⟩
abbrev S32768x256 : Shape := ⟨2, ![32768, 256]⟩
abbrev S_ : Shape := ⟨0, ![]⟩
abbrev S32768x1024 : Shape := ⟨2, ![32768, 1024]⟩
abbrev S32768x2048 : Shape := ⟨2, ![32768, 2048]⟩
abbrev S32768x2x2x64 : Shape := ⟨4, ![32768, 2, 2, 64]⟩
abbrev S32768x4096 : Shape := ⟨2, ![32768, 4096]⟩
abbrev S8x4096x4096 : Shape := ⟨3, ![8, 4096, 4096]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S32 : Shape := ⟨1, ![32]⟩
abbrev S1x1x32 : Shape := ⟨3, ![1, 1, 32]⟩
abbrev S128x256x32 : Shape := ⟨3, ![128, 256, 32]⟩
abbrev S16x128x256 : Shape := ⟨3, ![16, 128, 256]⟩
abbrev S1x1x256 : Shape := ⟨3, ![1, 1, 256]⟩
abbrev S16x1x1 : Shape := ⟨3, ![16, 1, 1]⟩
abbrev S1x128x256 : Shape := ⟨3, ![1, 128, 256]⟩
abbrev S1x16x128x256 : Shape := ⟨4, ![1, 16, 128, 256]⟩
abbrev S2x16x128x256 : Shape := ⟨4, ![2, 16, 128, 256]⟩
abbrev S8x4096x1024 : Shape := ⟨3, ![8, 4096, 1024]⟩
abbrev S1x128x1024 : Shape := ⟨3, ![1, 128, 1024]⟩
abbrev S1x128x512 : Shape := ⟨3, ![1, 128, 512]⟩
abbrev S128x1024 : Shape := ⟨2, ![128, 1024]⟩
abbrev S128x512 : Shape := ⟨2, ![128, 512]⟩
abbrev S256x512 : Shape := ⟨2, ![256, 512]⟩
abbrev S256x128 : Shape := ⟨2, ![256, 128]⟩
abbrev S128x128 : Shape := ⟨2, ![128, 128]⟩
abbrev S512x128 : Shape := ⟨2, ![512, 128]⟩
abbrev S1x1x128x256 : Shape := ⟨4, ![1, 1, 128, 256]⟩

abbrev nBuf : Space → Nat
  | .hbm => 129
  | .vmem => 14
  | .smem => 0
  | _ => 0

abbrev hbmTy0_0 (i : Nat) : BufTy := match i % 128 with
  | 0 => ⟨S8x4096x16x64, .f32⟩
  | 1 => ⟨S8x4096x4x64, .f32⟩
  | 2 => ⟨S8x4096x4x64, .f32⟩
  | 3 => ⟨S8x4096x2048, .f32⟩
  | 4 => ⟨S32x16, .f32⟩
  | 5 => ⟨S16, .f32⟩
  | 6 => ⟨S32768x256, .f32⟩
  | 7 => ⟨S32768x256, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S8x4096x16x64, .f32⟩
  | 15 => ⟨S8x4096x16x64, .f32⟩
  | 16 => ⟨S32768x1024, .f32⟩
  | 17 => ⟨S32768x2048, .f32⟩
  | 18 => ⟨S32768x2x2x64, .f32⟩
  | 19 => ⟨S32768x2x2x64, .f32⟩
  | 20 => ⟨S32768x256, .f32⟩
  | 21 => ⟨S32768x2x2x64, .f32⟩
  | 22 => ⟨S32768x2x2x64, .f32⟩
  | 23 => ⟨S32768x256, .f32⟩
  | 24 => ⟨S32768x4096, .f32⟩
  | 25 => ⟨S32768x4096, .bf16⟩
  | 26 => ⟨S8x4096x4096, .bf16⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S128x256, .f32⟩
  | 44 => ⟨S_, .f32⟩
  | 45 => ⟨S128x256, .f32⟩
  | 46 => ⟨S128x256, .f32⟩
  | 47 => ⟨S128x256, .f32⟩
  | 48 => ⟨S_, .f32⟩
  | 49 => ⟨S128x256, .f32⟩
  | 50 => ⟨S128x256, .f32⟩
  | 51 => ⟨S_, .f32⟩
  | 52 => ⟨S128x256, .f32⟩
  | 53 => ⟨S128x256, .f32⟩
  | 54 => ⟨S128x256, .i32⟩
  | 55 => ⟨S_, .i32⟩
  | 56 => ⟨S128x256, .i32⟩
  | 57 => ⟨S128x256, .i32⟩
  | 58 => ⟨S_, .i32⟩
  | 59 => ⟨S128x256, .i32⟩
  | 60 => ⟨S128x256, .i32⟩
  | 61 => ⟨S_, .i32⟩
  | 62 => ⟨S128x256, .i32⟩
  | 63 => ⟨S128x256, .i1⟩
  | 64 => ⟨S128x256, .i32⟩
  | 65 => ⟨S128x256x1, .i32⟩
  | 66 => ⟨S32, .i32⟩
  | 67 => ⟨S1x1x32, .i32⟩
  | 68 => ⟨S128x256x32, .i32⟩
  | 69 => ⟨S128x256x32, .i32⟩
  | 70 => ⟨S128x256x32, .i1⟩
  | 71 => ⟨S128x256x32, .f32⟩
  | 72 => ⟨S16x128x256, .f32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S_, .i32⟩
  | 81 => ⟨S1x256, .i32⟩
  | 82 => ⟨S1x256, .i1⟩
  | 83 => ⟨S1x1x256, .i1⟩
  | 84 => ⟨S16x128x256, .i1⟩
  | 85 => ⟨S_, .f32⟩
  | 86 => ⟨S_, .f32⟩
  | 87 => ⟨S_, .f32⟩
  | 88 => ⟨S_, .f32⟩
  | 89 => ⟨S16, .f32⟩
  | 90 => ⟨S16, .f32⟩
  | 91 => ⟨S16x1x1, .f32⟩
  | 92 => ⟨S_, .i32⟩
  | 93 => ⟨S1x256, .i32⟩
  | 94 => ⟨S1x256, .i1⟩
  | 95 => ⟨S128x256, .i1⟩
  | 96 => ⟨S128x256, .i1⟩
  | 97 => ⟨S1x128x256, .i1⟩
  | 98 => ⟨S_, .f32⟩
  | 99 => ⟨S_, .f32⟩
  | 100 => ⟨S_, .f32⟩
  | 101 => ⟨S_, .f32⟩
  | 102 => ⟨S16x128x256, .f32⟩
  | 103 => ⟨S16x128x256, .f32⟩
  | 104 => ⟨S_, .f32⟩
  | 105 => ⟨S_, .f32⟩
  | 106 => ⟨S16x128x256, .i1⟩
  | 107 => ⟨S16x128x256, .f32⟩
  | 108 => ⟨S16x128x256, .f32⟩
  | 109 => ⟨S16x128x256, .f32⟩
  | 110 => ⟨S16x128x256, .f32⟩
  | 111 => ⟨S1x128x256, .i1⟩
  | 112 => ⟨S_, .f32⟩
  | 113 => ⟨S_, .f32⟩
  | 114 => ⟨S_, .f32⟩
  | 115 => ⟨S_, .f32⟩
  | 116 => ⟨S16x128x256, .f32⟩
  | 117 => ⟨S16x128x256, .f32⟩
  | 118 => ⟨S_, .f32⟩
  | 119 => ⟨S_, .f32⟩
  | 120 => ⟨S16x128x256, .i1⟩
  | 121 => ⟨S16x128x256, .f32⟩
  | 122 => ⟨S16x128x256, .f32⟩
  | 123 => ⟨S16x128x256, .f32⟩
  | 124 => ⟨S16x128x256, .f32⟩
  | 125 => ⟨S1x16x128x256, .f32⟩
  | 126 => ⟨S1x16x128x256, .f32⟩
  | 127 => ⟨S2x16x128x256, .f32⟩
  | _ => ⟨S8x4096x16x64, .f32⟩

abbrev hbmTy0_1 (i : Nat) : BufTy := match i % 128 with
  | 0 => ⟨S8x4096x1024, .bf16⟩
  | _ => ⟨S8x4096x16x64, .f32⟩

abbrev hbmTy (i : Nat) : BufTy := match i / 128 with
  | 0 => hbmTy0_0 i
  | 1 => hbmTy0_1 i
  | _ => ⟨S8x4096x16x64, .f32⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x16x128x256, .f32⟩
  | .local _ .vmem, ⟨11, _⟩ => ⟨S1x16x128x256, .f32⟩
  | .local _ .vmem, ⟨12, _⟩ => ⟨S1x128x1024, .bf16⟩
  | .local _ .vmem, ⟨13, _⟩ => ⟨S1x128x1024, .bf16⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_10 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_cst_17 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_18 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v78 : Ref sig .tc := ⟨.hbm, 108, rfl⟩
abbrev main_call2_v0 : Ref sig .tc := ⟨.hbm, 109, rfl⟩
abbrev main_v79 : Ref sig .tc := ⟨.hbm, 110, rfl⟩
abbrev main_v80 : Ref sig .tc := ⟨.hbm, 111, rfl⟩
abbrev main_cst_19 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_21 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v85 : Ref sig .tc := ⟨.hbm, 122, rfl⟩
abbrev main_call4_v0 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c6_i32 : BitVec 32 := 6#32
  let c0_i32_0 : BitVec 32 := 0#32
  ![arg0.toNat, v1.toNat, c6_i32.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c7_i32 : BitVec 32 := 7#32
  let c0_i32_0 : BitVec 32 := 0#32
  ![arg0.toNat, v1.toNat, c7_i32.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x16x64 : Shape := ⟨4, ![8, 4096, 16, 64]⟩
abbrev S8x4096x4x64 : Shape := ⟨4, ![8, 4096, 4, 64]⟩
abbrev S8x4096x2048 : Shape := ⟨3, ![8, 4096, 2048]⟩
abbrev S32x16 : Shape := ⟨2, ![32, 16]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S8x32x128x4x4x64 : Shape := ⟨6, ![8, 32, 128, 4, 4, 64]⟩
abbrev S8x32x128x4x64 : Shape := ⟨5, ![8, 32, 128, 4, 64]⟩
abbrev S8x31x128x4x64 : Shape := ⟨5, ![8, 31, 128, 4, 64]⟩
abbrev S8x32x256x4x64 : Shape := ⟨5, ![8, 32, 256, 4, 64]⟩
abbrev S8x32x4x256x128x4 : Shape := ⟨6, ![8, 32, 4, 256, 128, 4]⟩
abbrev S8x32x4x4x128x256 : Shape := ⟨6, ![8, 32, 4, 4, 128, 256]⟩
abbrev S1x32x1x1x128x256 : Shape := ⟨6, ![1, 32, 1, 1, 128, 256]⟩
abbrev S1x1x4x4x128x256 : Shape := ⟨6, ![1, 1, 4, 4, 128, 256]⟩
abbrev S1x1x4x4x1x1 : Shape := ⟨6, ![1, 1, 4, 4, 1, 1]⟩
abbrev S8x32x4x4x128 : Shape := ⟨5, ![8, 32, 4, 4, 128]⟩
abbrev S8x32x4x4x128x1 : Shape := ⟨6, ![8, 32, 4, 4, 128, 1]⟩
abbrev S8x32x4x64x4x128 : Shape := ⟨6, ![8, 32, 4, 64, 4, 128]⟩
abbrev S8x4096x1024 : Shape := ⟨3, ![8, 4096, 1024]⟩

abbrev nBuf : Space → Nat
  | .hbm => 130
  | .vmem => 0
  | .smem => 0
  | _ => 0

abbrev hbmTy0_0 (i : Nat) : BufTy := match i % 128 with
  | 0 => ⟨S8x4096x16x64, .f32⟩
  | 1 => ⟨S8x4096x4x64, .f32⟩
  | 2 => ⟨S8x4096x4x64, .f32⟩
  | 3 => ⟨S8x4096x2048, .f32⟩
  | 4 => ⟨S32x16, .f32⟩
  | 5 => ⟨S16, .f32⟩
  | 6 => ⟨S128, .i32⟩
  | 7 => ⟨S128x1, .i32⟩
  | 8 => ⟨S256, .i32⟩
  | 9 => ⟨S1x256, .i32⟩
  | 10 => ⟨S_, .i32⟩
  | 11 => ⟨S128x1, .i32⟩
  | 12 => ⟨S128x1, .i32⟩
  | 13 => ⟨S128x256, .i32⟩
  | 14 => ⟨S128x256, .i32⟩
  | 15 => ⟨S128x256, .i32⟩
  | 16 => ⟨S_, .i32⟩
  | 17 => ⟨S128x256, .i32⟩
  | 18 => ⟨S128x256, .i1⟩
  | 19 => ⟨S_, .i32⟩
  | 20 => ⟨S128x256, .i32⟩
  | 21 => ⟨S128x256, .i1⟩
  | 22 => ⟨S128x256, .i1⟩
  | 23 => ⟨S32, .i32⟩
  | 24 => ⟨S32x1x1, .i32⟩
  | 25 => ⟨S_, .i32⟩
  | 26 => ⟨S32x1x1, .i32⟩
  | 27 => ⟨S32x1x1, .i32⟩
  | 28 => ⟨S_, .i32⟩
  | 29 => ⟨S32x1x1, .i32⟩
  | 30 => ⟨S32x1x1, .i32⟩
  | 31 => ⟨S1x1x256, .i32⟩
  | 32 => ⟨S32x1x256, .i32⟩
  | 33 => ⟨S32x1x256, .i32⟩
  | 34 => ⟨S32x1x256, .i32⟩
  | 35 => ⟨S1x128x256, .i1⟩
  | 36 => ⟨S_, .i32⟩
  | 37 => ⟨S32x1x256, .i32⟩
  | 38 => ⟨S32x1x256, .i1⟩
  | 39 => ⟨S32x128x256, .i1⟩
  | 40 => ⟨S32x128x256, .i1⟩
  | 41 => ⟨S32x128x256, .i1⟩
  | 42 => ⟨S_, .i32⟩
  | 43 => ⟨S128x256, .i32⟩
  | 44 => ⟨S128x256, .i32⟩
  | 45 => ⟨S_, .i32⟩
  | 46 => ⟨S128x256, .i32⟩
  | 47 => ⟨S128x256, .i32⟩
  | 48 => ⟨S128x256, .f32⟩
  | 49 => ⟨S_, .f32⟩
  | 50 => ⟨S128x256, .f32⟩
  | 51 => ⟨S128x256, .f32⟩
  | 52 => ⟨S128x256, .f32⟩
  | 53 => ⟨S_, .f32⟩
  | 54 => ⟨S128x256, .f32⟩
  | 55 => ⟨S128x256, .f32⟩
  | 56 => ⟨S_, .f32⟩
  | 57 => ⟨S128x256, .f32⟩
  | 58 => ⟨S128x256, .f32⟩
  | 59 => ⟨S128x256, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i32⟩
  | 66 => ⟨S_, .i32⟩
  | 67 => ⟨S128x256, .i32⟩
  | 68 => ⟨S128x256, .i1⟩
  | 69 => ⟨S128x256, .i32⟩
  | 70 => ⟨S_, .i32⟩
  | 71 => ⟨S128x256, .i32⟩
  | 72 => ⟨S128x256, .i1⟩
  | 73 => ⟨S_, .i32⟩
  | 74 => ⟨S128x256, .i32⟩
  | 75 => ⟨S128x256, .i32⟩
  | 76 => ⟨S128x256, .i32⟩
  | 77 => ⟨S128x256x1, .i32⟩
  | 78 => ⟨S128x256x16, .f32⟩
  | 79 => ⟨S16x128x256, .f32⟩
  | 80 => ⟨S4x4x128x256, .f32⟩
  | 81 => ⟨S8x32x128x4x4x64, .f32⟩
  | 82 => ⟨S8x32x128x4x64, .f32⟩
  | 83 => ⟨S8x31x128x4x64, .f32⟩
  | 84 => ⟨S_, .i32⟩
  | 85 => ⟨S_, .f32⟩
  | 86 => ⟨S8x32x128x4x64, .f32⟩
  | 87 => ⟨S8x32x256x4x64, .f32⟩
  | 88 => ⟨S8x32x128x4x64, .f32⟩
  | 89 => ⟨S8x31x128x4x64, .f32⟩
  | 90 => ⟨S_, .i32⟩
  | 91 => ⟨S_, .f32⟩
  | 92 => ⟨S8x32x128x4x64, .f32⟩
  | 93 => ⟨S8x32x256x4x64, .f32⟩
  | 94 => ⟨S8x32x4x256x128x4, .f32⟩
  | 95 => ⟨S8x32x4x4x128x256, .f32⟩
  | 96 => ⟨S_, .f32⟩
  | 97 => ⟨S8x32x4x4x128x256, .f32⟩
  | 98 => ⟨S8x32x4x4x128x256, .f32⟩
  | 99 => ⟨S1x32x1x1x128x256, .i1⟩
  | 100 => ⟨S1x1x4x4x128x256, .f32⟩
  | 101 => ⟨S8x32x4x4x128x256, .f32⟩
  | 102 => ⟨S8x32x4x4x128x256, .f32⟩
  | 103 => ⟨S_, .f32⟩
  | 104 => ⟨S_, .f32⟩
  | 105 => ⟨S8x32x4x4x128x256, .i1⟩
  | 106 => ⟨S8x32x4x4x128x256, .f32⟩
  | 107 => ⟨S8x32x4x4x128x256, .f32⟩
  | 108 => ⟨S1x1x4x4x1x1, .f32⟩
  | 109 => ⟨S_, .f32⟩
  | 110 => ⟨S8x32x4x4x128, .f32⟩
  | 111 => ⟨S8x32x4x4x128x1, .f32⟩
  | 112 => ⟨S8x32x4x4x128x1, .f32⟩
  | 113 => ⟨S8x32x4x4x128x1, .f32⟩
  | 114 => ⟨S8x32x4x4x128x256, .f32⟩
  | 115 => ⟨S8x32x4x4x128x256, .f32⟩
  | 116 => ⟨S8x32x4x4x128x256, .f32⟩
  | 117 => ⟨S_, .f32⟩
  | 118 => ⟨S8x32x4x4x128, .f32⟩
  | 119 => ⟨S8x32x4x4x128x1, .f32⟩
  | 120 => ⟨S8x32x4x4x128x1, .f32⟩
  | 121 => ⟨S8x32x4x4x128x1, .f32⟩
  | 122 => ⟨S8x32x4x4x128x1, .f32⟩
  | 123 => ⟨S8x32x4x4x128x1, .f32⟩
  | 124 => ⟨S8x32x4x4x128x256, .f32⟩
  | 125 => ⟨S8x32x4x4x128x256, .f32⟩
  | 126 => ⟨S8x32x4x64x4x128, .f32⟩
  | 127 => ⟨S8x32x128x4x4x64, .f32⟩
  | _ => ⟨S8x4096x16x64, .f32⟩

abbrev hbmTy0_1 (i : Nat) : BufTy := match i % 128 with
  | 0 => ⟨S8x4096x1024, .f32⟩
  | 1 => ⟨S8x4096x1024, .bf16⟩
  | _ => ⟨S8x4096x16x64, .f32⟩

abbrev hbmTy (i : Nat) : BufTy := match i / 128 with
  | 0 => hbmTy0_0 i
  | 1 => hbmTy0_1 i
  | _ => ⟨S8x4096x16x64, .f32⟩

abbrev bufTy : (tb : Table) → Fin (tcTables nBuf tb) → BufTy
  | .hbm, ⟨i, _⟩ => hbmTy i
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_12 : Ref sig .tc := ⟨.hbm, 70, rfl⟩
abbrev main_v50 : Ref sig .tc := ⟨.hbm, 71, rfl⟩
abbrev main_v51 : Ref sig .tc := ⟨.hbm, 72, rfl⟩
abbrev main_c_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_14 : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_call2_v0 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v76 : Ref sig .tc := ⟨.hbm, 107, rfl⟩
abbrev main_v77 : Ref sig .tc := ⟨.hbm, 108, rfl⟩
abbrev main_cst_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]
-- ==== Kernel2.lean ====
abbrev S589824x128 : Shape := ⟨2, ![589824, 128]⟩
abbrev S72 : Shape := ⟨1, ![72]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S16x1024x3584 : Shape := ⟨3, ![16, 1024, 3584]⟩
abbrev S16x3584x1024 : Shape := ⟨3, ![16, 3584, 1024]⟩
abbrev S8192x128 : Shape := ⟨2, ![8192, 128]⟩
abbrev S1x1024x512 : Shape := ⟨3, ![1, 1024, 512]⟩
abbrev S1x512x1024 : Shape := ⟨3, ![1, 512, 1024]⟩
abbrev S1024x1024 : Shape := ⟨2, ![1024, 1024]⟩
abbrev S1024x128 : Shape := ⟨2, ![1024, 128]⟩
abbrev S1024x512 : Shape := ⟨2, ![1024, 512]⟩
abbrev S512x1024 : Shape := ⟨2, ![512, 1024]⟩

abbrev nBuf : Space → Nat
  | .hbm => 11
  | .vmem => 12
  | .smem => 2
  | _ => 0

abbrev bufTy : (tb : Table) → Fin (tcTables nBuf tb) → BufTy
  | .hbm, ⟨0, _⟩ => ⟨S589824x128, .f32⟩
  | .hbm, ⟨1, _⟩ => ⟨S72, .i32⟩
  | .hbm, ⟨2, _⟩ => ⟨S2x8x1024x3584, .f32⟩
  | .hbm, ⟨3, _⟩ => ⟨S2x8x1024x3584, .f32⟩
  | .hbm, ⟨4, _⟩ => ⟨S2x8x3584x1024, .f32⟩
  | .hbm, ⟨5, _⟩ => ⟨S_, .i32⟩
  | .hbm, ⟨6, _⟩ => ⟨S72, .i32⟩
  | .hbm, ⟨7, _⟩ => ⟨S16x1024x3584, .f32⟩
  | .hbm, ⟨8, _⟩ => ⟨S16x1024x3584, .f32⟩
  | .hbm, ⟨9, _⟩ => ⟨S16x3584x1024, .f32⟩
  | .hbm, ⟨10, _⟩ => ⟨S589824x128, .f32⟩
  | .local _ .vmem, ⟨0, _⟩ => ⟨S8192x128, .f32⟩
  | .local _ .vmem, ⟨1, _⟩ => ⟨S8192x128, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S8192x128, .f32⟩
  | .local _ .vmem, ⟨9, _⟩ => ⟨S8192x128, .f32⟩
  | .local _ .vmem, ⟨10, _⟩ => ⟨S1024x1024, .bf16⟩
  | .local _ .vmem, ⟨11, _⟩ => ⟨S1024x1024, .f32⟩
  | .local _ .smem, ⟨0, _⟩ => ⟨S72, .i32⟩
  | .local _ .smem, ⟨1, _⟩ => ⟨S1, .i32⟩
  | _, _ => ⟨S589824x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_c : Ref sig .tc := ⟨.hbm, 5, rfl⟩
abbrev main_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_v1.idx, main_arg2.idx], fun | 0 => main_v1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v8 : BitVec 1 := Scalar.cmpi .eq arg1 c6_i32
  let v9 : BitVec 32 := Scalar.extui v8
  let c0_i32_2 : BitVec 32 := 0#32
  let v10 : BitVec 1 := Scalar.cmpi .ne v9 c0_i32_2
  v10

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S589824x128 : Shape := ⟨2, ![589824, 128]⟩
abbrev S72 : Shape := ⟨1, ![72]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S73728x1024 : Shape := ⟨2, ![73728, 1024]⟩
abbrev S1x8x1024x3584 : Shape := ⟨4, ![1, 8, 1024, 3584]⟩
abbrev S8x1024x3584 : Shape := ⟨3, ![8, 1024, 3584]⟩
abbrev S1x8x3584x1024 : Shape := ⟨4, ![1, 8, 3584, 1024]⟩
abbrev S8x3584x1024 : Shape := ⟨3, ![8, 3584, 1024]⟩
abbrev S72x1 : Shape := ⟨2, ![72, 1]⟩
abbrev S8 : Shape := ⟨1, ![8]⟩
abbrev S1x8 : Shape := ⟨2, ![1, 8]⟩
abbrev S72x8 : Shape := ⟨2, ![72, 8]⟩
abbrev S_ : Shape := ⟨0, ![]⟩
abbrev S72x1024x8 : Shape := ⟨3, ![72, 1024, 8]⟩
abbrev S73728x8 : Shape := ⟨2, ![73728, 8]⟩
abbrev S73728x1 : Shape := ⟨2, ![73728, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S73728x3584 : Shape := ⟨2, ![73728, 3584]⟩

abbrev nBuf : Space → Nat
  | .hbm => 216
  | .vmem => 0
  | .smem => 0
  | _ => 0

abbrev hbmTy0_0 (i : Nat) : BufTy := match i % 128 with
  | 0 => ⟨S589824x128, .f32⟩
  | 1 => ⟨S72, .i32⟩
  | 2 => ⟨S1, .i32⟩
  | 3 => ⟨S2x8x1024x3584, .f32⟩
  | 4 => ⟨S2x8x1024x3584, .f32⟩
  | 5 => ⟨S2x8x3584x1024, .f32⟩
  | 6 => ⟨S73728x1024, .f32⟩
  | 7 => ⟨S1x8x1024x3584, .f32⟩
  | 8 => ⟨S8x1024x3584, .f32⟩
  | 9 => ⟨S1x8x1024x3584, .f32⟩
  | 10 => ⟨S8x1024x3584, .f32⟩
  | 11 => ⟨S1x8x3584x1024, .f32⟩
  | 12 => ⟨S8x3584x1024, .f32⟩
  | 13 => ⟨S72, .i32⟩
  | 14 => ⟨S72x1, .i32⟩
  | 15 => ⟨S8, .i32⟩
  | 16 => ⟨S1x8, .i32⟩
  | 17 => ⟨S72x8, .i32⟩
  | 18 => ⟨S72x8, .i32⟩
  | 19 => ⟨S72x8, .i1⟩
  | 20 => ⟨S_, .i32⟩
  | 21 => ⟨S72, .i32⟩
  | 22 => ⟨S72, .i1⟩
  | 23 => ⟨S72x1, .i1⟩
  | 24 => ⟨S72x8, .i1⟩
  | 25 => ⟨S72x8, .i1⟩
  | 26 => ⟨S72x8, .f32⟩
  | 27 => ⟨S72x1024x8, .f32⟩
  | 28 => ⟨S73728x8, .f32⟩
  | 29 => ⟨S_, .f32⟩
  | 30 => ⟨S73728x1024, .f32⟩
  | 31 => ⟨S73728x1, .f32⟩
  | 32 => ⟨S1x1024x3584, .f32⟩
  | 33 => ⟨S1024x3584, .f32⟩
  | 34 => ⟨S1x1024x3584, .f32⟩
  | 35 => ⟨S1024x3584, .f32⟩
  | 36 => ⟨S1x3584x1024, .f32⟩
  | 37 => ⟨S3584x1024, .f32⟩
  | 38 => ⟨S73728x3584, .f32⟩
  | 39 => ⟨S73728x3584, .f32⟩
  | 40 => ⟨S73728x3584, .f32⟩
  | 41 => ⟨S_, .f32⟩
  | 42 => ⟨S73728x3584, .f32⟩
  | 43 => ⟨S73728x3584, .f32⟩
  | 44 => ⟨S_, .f32⟩
  | 45 => ⟨S73728x3584, .f32⟩
  | 46 => ⟨S73728x3584, .f32⟩
  | 47 => ⟨S73728x3584, .f32⟩
  | 48 => ⟨S73728x3584, .f32⟩
  | 49 => ⟨S73728x3584, .f32⟩
  | 50 => ⟨S73728x1024, .f32⟩
  | 51 => ⟨S73728x1024, .f32⟩
  | 52 => ⟨S73728x1024, .f32⟩
  | 53 => ⟨S73728x1024, .f32⟩
  | 54 => ⟨S73728x1, .f32⟩
  | 55 => ⟨S1x1024x3584, .f32⟩
  | 56 => ⟨S1024x3584, .f32⟩
  | 57 => ⟨S1x1024x3584, .f32⟩
  | 58 => ⟨S1024x3584, .f32⟩
  | 59 => ⟨S1x3584x1024, .f32⟩
  | 60 => ⟨S3584x1024, .f32⟩
  | 61 => ⟨S73728x3584, .f32⟩
  | 62 => ⟨S73728x3584, .f32⟩
  | 63 => ⟨S73728x3584, .f32⟩
  | 64 => ⟨S_, .f32⟩
  | 65 => ⟨S73728x3584, .f32⟩
  | 66 => ⟨S73728x3584, .f32⟩
  | 67 => ⟨S_, .f32⟩
  | 68 => ⟨S73728x3584, .f32⟩
  | 69 => ⟨S73728x3584, .f32⟩
  | 70 => ⟨S73728x3584, .f32⟩
  | 71 => ⟨S73728x3584, .f32⟩
  | 72 => ⟨S73728x3584, .f32⟩
  | 73 => ⟨S73728x1024, .f32⟩
  | 74 => ⟨S73728x1024, .f32⟩
  | 75 => ⟨S73728x1024, .f32⟩
  | 76 => ⟨S73728x1024, .f32⟩
  | 77 => ⟨S73728x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S73728x3584, .f32⟩
  | 85 => ⟨S73728x3584, .f32⟩
  | 86 => ⟨S73728x3584, .f32⟩
  | 87 => ⟨S_, .f32⟩
  | 88 => ⟨S73728x3584, .f32⟩
  | 89 => ⟨S73728x3584, .f32⟩
  | 90 => ⟨S_, .f32⟩
  | 91 => ⟨S73728x3584, .f32⟩
  | 92 => ⟨S73728x3584, .f32⟩
  | 93 => ⟨S73728x3584, .f32⟩
  | 94 => ⟨S73728x3584, .f32⟩
  | 95 => ⟨S73728x3584, .f32⟩
  | 96 => ⟨S73728x1024, .f32⟩
  | 97 => ⟨S73728x1024, .f32⟩
  | 98 => ⟨S73728x1024, .f32⟩
  | 99 => ⟨S73728x1024, .f32⟩
  | 100 => ⟨S73728x1, .f32⟩
  | 101 => ⟨S1x1024x3584, .f32⟩
  | 102 => ⟨S1024x3584, .f32⟩
  | 103 => ⟨S1x1024x3584, .f32⟩
  | 104 => ⟨S1024x3584, .f32⟩
  | 105 => ⟨S1x3584x1024, .f32⟩
  | 106 => ⟨S3584x1024, .f32⟩
  | 107 => ⟨S73728x3584, .f32⟩
  | 108 => ⟨S73728x3584, .f32⟩
  | 109 => ⟨S73728x3584, .f32⟩
  | 110 => ⟨S_, .f32⟩
  | 111 => ⟨S73728x3584, .f32⟩
  | 112 => ⟨S73728x3584, .f32⟩
  | 113 => ⟨S_, .f32⟩
  | 114 => ⟨S73728x3584, .f32⟩
  | 115 => ⟨S73728x3584, .f32⟩
  | 116 => ⟨S73728x3584, .f32⟩
  | 117 => ⟨S73728x3584, .f32⟩
  | 118 => ⟨S73728x3584, .f32⟩
  | 119 => ⟨S73728x1024, .f32⟩
  | 120 => ⟨S73728x1024, .f32⟩
  | 121 => ⟨S73728x1024, .f32⟩
  | 122 => ⟨S73728x1024, .f32⟩
  | 123 => ⟨S73728x1, .f32⟩
  | 124 => ⟨S1x1024x3584, .f32⟩
  | 125 => ⟨S1024x3584, .f32⟩
  | 126 => ⟨S1x1024x3584, .f32⟩
  | 127 => ⟨S1024x3584, .f32⟩
  | _ => ⟨S589824x128, .f32⟩

abbrev hbmTy0_1 (i : Nat) : BufTy := match i % 128 with
  | 0 => ⟨S1x3584x1024, .f32⟩
  | 1 => ⟨S3584x1024, .f32⟩
  | 2 => ⟨S73728x3584, .f32⟩
  | 3 => ⟨S73728x3584, .f32⟩
  | 4 => ⟨S73728x3584, .f32⟩
  | 5 => ⟨S_, .f32⟩
  | 6 => ⟨S73728x3584, .f32⟩
  | 7 => ⟨S73728x3584, .f32⟩
  | 8 => ⟨S_, .f32⟩
  | 9 => ⟨S73728x3584, .f32⟩
  | 10 => ⟨S73728x3584, .f32⟩
  | 11 => ⟨S73728x3584, .f32⟩
  | 12 => ⟨S73728x3584, .f32⟩
  | 13 => ⟨S73728x3584, .f32⟩
  | 14 => ⟨S73728x1024, .f32⟩
  | 15 => ⟨S73728x1024, .f32⟩
  | 16 => ⟨S73728x1024, .f32⟩
  | 17 => ⟨S73728x1024, .f32⟩
  | 18 => ⟨S73728x1, .f32⟩
  | 19 => ⟨S1x1024x3584, .f32⟩
  | 20 => ⟨S1024x3584, .f32⟩
  | 21 => ⟨S1x1024x3584, .f32⟩
  | 22 => ⟨S1024x3584, .f32⟩
  | 23 => ⟨S1x3584x1024, .f32⟩
  | 24 => ⟨S3584x1024, .f32⟩
  | 25 => ⟨S73728x3584, .f32⟩
  | 26 => ⟨S73728x3584, .f32⟩
  | 27 => ⟨S73728x3584, .f32⟩
  | 28 => ⟨S_, .f32⟩
  | 29 => ⟨S73728x3584, .f32⟩
  | 30 => ⟨S73728x3584, .f32⟩
  | 31 => ⟨S_, .f32⟩
  | 32 => ⟨S73728x3584, .f32⟩
  | 33 => ⟨S73728x3584, .f32⟩
  | 34 => ⟨S73728x3584, .f32⟩
  | 35 => ⟨S73728x3584, .f32⟩
  | 36 => ⟨S73728x3584, .f32⟩
  | 37 => ⟨S73728x1024, .f32⟩
  | 38 => ⟨S73728x1024, .f32⟩
  | 39 => ⟨S73728x1024, .f32⟩
  | 40 => ⟨S73728x1024, .f32⟩
  | 41 => ⟨S73728x1, .f32⟩
  | 42 => ⟨S1x1024x3584, .f32⟩
  | 43 => ⟨S1024x3584, .f32⟩
  | 44 => ⟨S1x1024x3584, .f32⟩
  | 45 => ⟨S1024x3584, .f32⟩
  | 46 => ⟨S1x3584x1024, .f32⟩
  | 47 => ⟨S3584x1024, .f32⟩
  | 48 => ⟨S73728x3584, .f32⟩
  | 49 => ⟨S73728x3584, .f32⟩
  | 50 => ⟨S73728x3584, .f32⟩
  | 51 => ⟨S_, .f32⟩
  | 52 => ⟨S73728x3584, .f32⟩
  | 53 => ⟨S73728x3584, .f32⟩
  | 54 => ⟨S_, .f32⟩
  | 55 => ⟨S73728x3584, .f32⟩
  | 56 => ⟨S73728x3584, .f32⟩
  | 57 => ⟨S73728x3584, .f32⟩
  | 58 => ⟨S73728x3584, .f32⟩
  | 59 => ⟨S73728x3584, .f32⟩
  | 60 => ⟨S73728x1024, .f32⟩
  | 61 => ⟨S73728x1024, .f32⟩
  | 62 => ⟨S73728x1024, .f32⟩
  | 63 => ⟨S73728x1024, .f32⟩
  | 64 => ⟨S73728x1, .f32⟩
  | 65 => ⟨S1x1024x3584, .f32⟩
  | 66 => ⟨S1024x3584, .f32⟩
  | 67 => ⟨S1x1024x3584, .f32⟩
  | 68 => ⟨S1024x3584, .f32⟩
  | 69 => ⟨S1x3584x1024, .f32⟩
  | 70 => ⟨S3584x1024, .f32⟩
  | 71 => ⟨S73728x3584, .f32⟩
  | 72 => ⟨S73728x3584, .f32⟩
  | 73 => ⟨S73728x3584, .f32⟩
  | 74 => ⟨S_, .f32⟩
  | 75 => ⟨S73728x3584, .f32⟩
  | 76 => ⟨S73728x3584, .f32⟩
  | 77 => ⟨S_, .f32⟩
  | 78 => ⟨S73728x3584, .f32⟩
  | 79 => ⟨S73728x3584, .f32⟩
  | 80 => ⟨S73728x3584, .f32⟩
  | 81 => ⟨S73728x3584, .f32⟩
  | 82 => ⟨S73728x3584, .f32⟩
  | 83 => ⟨S73728x1024, .f32⟩
  | 84 => ⟨S73728x1024, .f32⟩
  | 85 => ⟨S73728x1024, .f32⟩
  | 86 => ⟨S73728x1024, .f32⟩
  | 87 => ⟨S589824x128, .f32⟩
  | _ => ⟨S589824x128, .f32⟩

abbrev hbmTy (i : Nat) : BufTy := match i / 128 with
  | 0 => hbmTy0_0 i
  | 1 => hbmTy0_1 i
  | _ => ⟨S589824x128, .f32⟩

abbrev bufTy : (tb : Table) → Fin (tcTables nBuf tb) → BufTy
  | .hbm, ⟨i, _⟩ => hbmTy i
  | _, _ => ⟨S589824x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_call7_v0 : Ref sig .tc := ⟨.hbm, 200, rfl⟩
abbrev main_call7_v1 : Ref sig .tc := ⟨.hbm, 201, rfl⟩
abbrev main_call7_cst : Ref sig .tc := ⟨.hbm, 202, rfl⟩
abbrev main_call7_v2 : Ref sig .tc := ⟨.hbm, 203, rfl⟩
abbrev main_call7_v3 : Ref sig .tc := ⟨.hbm, 204, rfl⟩
abbrev main_call7_cst_0 : Ref sig .tc := ⟨.hbm, 205, rfl⟩
abbrev main_call7_v4 : Ref sig .tc := ⟨.hbm, 206, rfl⟩
abbrev main_call7_v5 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S2x1024x3584 : Shape := ⟨3, ![2, 1024, 3584]⟩
abbrev S2x3584x1024 : Shape := ⟨3, ![2, 3584, 1024]⟩
abbrev S32768x1024 : Shape := ⟨2, ![32768, 1024]⟩
abbrev S1x1024 : Shape := ⟨2, ![1, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S2x1024x3584, .f32⟩
  | .hbm, ⟨3, _⟩ => ⟨S2x1024x3584, .f32⟩
  | .hbm, ⟨4, _⟩ => ⟨S2x3584x1024, .f32⟩
  | .hbm, ⟨5, _⟩ => ⟨S32768x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c6_i32 : BitVec 32 := 6#32
  let v25 : BitVec 1 := Scalar.cmpi .eq arg1 c6_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8x4096x1024 : Shape := ⟨3, ![8, 4096, 1024]⟩
abbrev S1024 : Shape := ⟨1, ![1024]⟩
abbrev S2x1024x3584 : Shape := ⟨3, ![2, 1024, 3584]⟩
abbrev S2x3584x1024 : Shape := ⟨3, ![2, 3584, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S8x4096x3584 : Shape := ⟨3, ![8, 4096, 3584]⟩
abbrev S32768x1024 : Shape := ⟨2, ![32768, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S2x1024x3584, .f32⟩
  | .hbm, ⟨3, _⟩ => ⟨S2x1024x3584, .f32⟩
  | .hbm, ⟨4, _⟩ => ⟨S2x3584x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1x1024x3584, .f32⟩
  | .hbm, ⟨22, _⟩ => ⟨S1024x3584, .f32⟩
  | .hbm, ⟨23, _⟩ => ⟨S1x1024x3584, .f32⟩
  | .hbm, ⟨24, _⟩ => ⟨S1024x3584, .f32⟩
  | .hbm, ⟨25, _⟩ => ⟨S1x3584x1024, .f32⟩
  | .hbm, ⟨26, _⟩ => ⟨S3584x1024, .f32⟩
  | .hbm, ⟨27, _⟩ => ⟨S8x4096x3584, .f32⟩
  | .hbm, ⟨28, _⟩ => ⟨S8x4096x3584, .f32⟩
  | .hbm, ⟨29, _⟩ => ⟨S8x4096x3584, .f32⟩
  | .hbm, ⟨30, _⟩ => ⟨S_, .f32⟩
  | .hbm, ⟨31, _⟩ => ⟨S8x4096x3584, .f32⟩
  | .hbm, ⟨32, _⟩ => ⟨S8x4096x3584, .f32⟩
  | .hbm, ⟨33, _⟩ => ⟨S_, .f32⟩
  | .hbm, ⟨34, _⟩ => ⟨S8x4096x3584, .f32⟩
  | .hbm, ⟨35, _⟩ => ⟨S8x4096x3584, .f32⟩
  | .hbm, ⟨36, _⟩ => ⟨S8x4096x3584, .f32⟩
  | .hbm, ⟨37, _⟩ => ⟨S8x4096x3584, .f32⟩
  | .hbm, ⟨38, _⟩ => ⟨S8x4096x3584, .f32⟩
  | .hbm, ⟨39, _⟩ => ⟨S8x4096x1024, .f32⟩
  | .hbm, ⟨40, _⟩ => ⟨S8x4096x1024, .f32⟩
  | .hbm, ⟨41, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.Tiles.lean ====
module

public import proofs.«01_k».proof.Proof.Gen.KernelIdeal.Frame

/-! What one grid point of the attention kernel stores, put as eight copies of one tile: a tile is two heads
side by side on 128 lanes, each with its own row softmax, their values summed in one product over the stacked
keys. -/

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-- The scores of one head: its queries' tile against the keys kept on its half of the lanes, with the table. -/
def scores (q : FVec F S128x128 .bf16) (k : FVec F S256x128 .bf16) (b : FVec F S1x1x128x256 .f32) : FVec F S128x256 .f32 :=
  addf (matmul dot_S128x128_S256x128_S128x256_1_1_0_0_n_n none q k (constant S128x256 .f32 0x00000000#32))
    (shapeCast S128x256 b shapeCasts_S1x1x128x256_S128x256)

/-- The weights of a row before they are divided by their sum. -/
def weights (s : FVec F S128x256 .f32) : FVec F S128x256 .f32 :=
  exp2 (subf s (broadcastTo S128x256 (shapeCast S128x1
    (multiReduction .maximumf [1] S128 s 0xFF800000#32 reduces_S128x256_S128 (.inl rfl) rfl) shapeCasts_S128_S128x1)
    broadcasts_S128x1_S128x256))

/-- One over the sum of a row's weights, on every lane. -/
def recip (s : FVec F S128x256 .f32) : FVec F S128x128 .f32 :=
  broadcastTo S128x128 (shapeCast S128x1 (divf (broadcast S128x1 (Scalar.ofBits .f32 0x3F800000#32))
    (shapeCast S128x1 (multiReduction .add [1] S128 (weights s) 0x00000000#32 reduces_S128x256_S128 (.inl rfl) rfl)
      shapeCasts_S128_S128x1)) shapeCasts_S128x1_S128x1) broadcasts_S128x1_S128x128

/-- What a tile of two heads comes to, from their scores and the stacked values. -/
def tileOut (s0 s1 : FVec F S128x256 .f32) (v : FVec F S512x128 .bf16) : FVec F S128x128 .f32 :=
  mulf (matmul dot_S128x512_S512x128_S128x128_1_0_0_1_n_n none
      (concatenate S128x512 1 [⟨S128x256, truncf .bf16 (weights s0) bitsLt_bf16_f32⟩, ⟨S128x256, truncf .bf16 (weights s1) bitsLt_bf16_f32⟩]
        concatenates_S128x256_S128x256_S128x512_d1) v (constant S128x128 .f32 0x00000000#32))
    (select k0_pay7 (recip s0) (recip s1))

/-- The lower 64 lanes of a tile of keys or values, row 0 and the other lanes zero. -/
def keepLow (x : FVec F S256x128 .bf16) : FVec F S256x128 .bf16 := select k0_pay5 x (k0_pay8 (F := F))

/-- The upper 64 lanes of a tile of keys or values, row 0 and the other lanes zero. -/
def keepHigh (x : FVec F S256x128 .bf16) : FVec F S256x128 .bf16 := select k0_pay6 x (k0_pay8 (F := F))

/-- The two halves' values, one above the other. -/
def stack (lo hi : FVec F S256x128 .bf16) : FVec F S512x128 .bf16 :=
  concatenate S512x128 0 [⟨S256x128, keepLow lo⟩, ⟨S256x128, keepHigh hi⟩] concatenates_S256x128_S256x128_S512x128_d0

/-- A tile, from its queries, the keys and values on its two halves, and its two heads' tables. -/
def tile (q : FVec F S128x128 .bf16) (klo khi vlo vhi : FVec F S256x128 .bf16) (b0 b1 : FVec F S1x1x128x256 .f32) : FVec F S128x128 .f32 :=
  tileOut (scores q (keepLow klo) b0) (scores q (keepHigh khi) b1) (stack vlo vhi)

/-- The previous block's rows above the own block's. -/
def rows (p o : FVec F S1x128x512 .bf16) : FVec F S256x512 .bf16 :=
  concatenate S256x512 0 [⟨S128x512, shapeCast S128x512 p shapeCasts_S1x128x512_S128x512⟩, ⟨S128x512, shapeCast S128x512 o shapeCasts_S1x128x512_S128x512⟩]
    concatenates_S128x512_S128x512_S256x512_d0

/-- The eight tiles beside one another, as stored. -/
def blockOut (q : FVec F S128x1024 .bf16) (k v : FVec F S256x512 .bf16)
    (b0 b1 b2 b3 b4 b5 b6 b7 b8 b9 b10 b11 b12 b13 b14 b15 : FVec F S1x1x128x256 .f32) : FVec F S1x128x1024 .bf16 :=
  shapeCast S1x128x1024 (truncf .bf16 (concatenate S128x1024 1 [
    ⟨S128x128, tile (extractStridedSlice S128x128 ![0, 0] q slices_S128x1024_o0_0_S128x128)
      (extractStridedSlice S256x128 ![0, 0] k slices_S256x512_o0_0_S256x128) (extractStridedSlice S256x128 ![0, 256] k slices_S256x512_o0_256_S256x128)
      (extractStridedSlice S256x128 ![0, 0] v slices_S256x512_o0_0_S256x128) (extractStridedSlice S256x128 ![0, 256] v slices_S256x512_o0_256_S256x128) b0 b1⟩,
    ⟨S128x128, tile (extractStridedSlice S128x128 ![0, 128] q slices_S128x1024_o0_128_S128x128)
      (extractStridedSlice S256x128 ![0, 0] k slices_S256x512_o0_0_S256x128) (extractStridedSlice S256x128 ![0, 256] k slices_S256x512_o0_256_S256x128)
      (extractStridedSlice S256x128 ![0, 0] v slices_S256x512_o0_0_S256x128) (extractStridedSlice S256x128 ![0, 256] v slices_S256x512_o0_256_S256x128) b2 b3⟩,
    ⟨S128x128, tile (extractStridedSlice S128x128 ![0, 256] q slices_S128x1024_o0_256_S128x128)
      (extractStridedSlice S256x128 ![0, 256] k slices_S256x512_o0_256_S256x128) (extractStridedSlice S256x128 ![0, 0] k slices_S256x512_o0_0_S256x128)
      (extractStridedSlice S256x128 ![0, 256] v slices_S256x512_o0_256_S256x128) (extractStridedSlice S256x128 ![0, 0] v slices_S256x512_o0_0_S256x128) b4 b5⟩,
    ⟨S128x128, tile (extractStridedSlice S128x128 ![0, 384] q slices_S128x1024_o0_384_S128x128)
      (extractStridedSlice S256x128 ![0, 256] k slices_S256x512_o0_256_S256x128) (extractStridedSlice S256x128 ![0, 0] k slices_S256x512_o0_0_S256x128)
      (extractStridedSlice S256x128 ![0, 256] v slices_S256x512_o0_256_S256x128) (extractStridedSlice S256x128 ![0, 0] v slices_S256x512_o0_0_S256x128) b6 b7⟩,
    ⟨S128x128, tile (extractStridedSlice S128x128 ![0, 512] q slices_S128x1024_o0_512_S128x128)
      (extractStridedSlice S256x128 ![0, 128] k slices_S256x512_o0_128_S256x128) (extractStridedSlice S256x128 ![0, 384] k slices_S256x512_o0_384_S256x128)
      (extractStridedSlice S256x128 ![0, 128] v slices_S256x512_o0_128_S256x128) (extractStridedSlice S256x128 ![0, 384] v slices_S256x512_o0_384_S256x128) b8 b9⟩,
    ⟨S128x128, tile (extractStridedSlice S128x128 ![0, 640] q slices_S128x1024_o0_640_S128x128)
      (extractStridedSlice S256x128 ![0, 128] k slices_S256x512_o0_128_S256x128) (extractStridedSlice S256x128 ![0, 384] k slices_S256x512_o0_384_S256x128)
      (extractStridedSlice S256x128 ![0, 128] v slices_S256x512_o0_128_S256x128) (extractStridedSlice S256x128 ![0, 384] v slices_S256x512_o0_384_S256x128) b10 b11⟩,
    ⟨S128x128, tile (extractStridedSlice S128x128 ![0, 768] q slices_S128x1024_o0_768_S128x128)
      (extractStridedSlice S256x128 ![0, 384] k slices_S256x512_o0_384_S256x128) (extractStridedSlice S256x128 ![0, 128] k slices_S256x512_o0_128_S256x128)
      (extractStridedSlice S256x128 ![0, 384] v slices_S256x512_o0_384_S256x128) (extractStridedSlice S256x128 ![0, 128] v slices_S256x512_o0_128_S256x128) b12 b13⟩,
    ⟨S128x128, tile (extractStridedSlice S128x128 ![0, 896] q slices_S128x1024_o0_896_S128x128)
      (extractStridedSlice S256x128 ![0, 384] k slices_S256x512_o0_384_S256x128) (extractStridedSlice S256x128 ![0, 128] k slices_S256x512_o0_128_S256x128)
      (extractStridedSlice S256x128 ![0, 384] v slices_S256x512_o0_384_S256x128) (extractStridedSlice S256x128 ![0, 128] v slices_S256x512_o0_128_S256x128) b14 b15⟩]
    concatenates_S128x128_S128x128_S128x128_S128x128_S128x128_S128x128_S128x128_S128x128_S128x1024_d1) bitsLt_bf16_f32) shapeCasts_S128x1024_S1x128x1024

/-- WHAT A POINT STORES is the eight tiles. -/
theorem out_eq (x0 : Vec F S1x128x1024 .bf16) (x1 x2 x3 x4 : Vec F S1x128x512 .bf16) (x5 : Vec F S1x16x128x256 .f32) :
    out0_6 x0 x1 x2 x3 x4 x5 = View.canon [⟨r0_0, blockOut (shapeCast S128x1024 (View.ld x0 r0_0) shapeCasts_S1x128x1024_S128x1024)
      (rows (View.ld x1 r0_1) (View.ld x2 r0_1)) (rows (View.ld x3 r0_1) (View.ld x4 r0_1))
      (View.ld x5 r0_2) (View.ld x5 r0_3) (View.ld x5 r0_4) (View.ld x5 r0_5) (View.ld x5 r0_6) (View.ld x5 r0_7) (View.ld x5 r0_8) (View.ld x5 r0_9)
      (View.ld x5 r0_10) (View.ld x5 r0_11) (View.ld x5 r0_12) (View.ld x5 r0_13) (View.ld x5 r0_14) (View.ld x5 r0_15) (View.ld x5 r0_16) (View.ld x5 r0_17)⟩] := by
  rfl

end Cert.KernelIdeal.Attn

end
-- ==== Proof.Softmax.lean ====
module

public import Idealize.ShloMosaic.Lib.Pointwise

/-! The arithmetic of one softmax row over the extended reals: a base-two softmax whose first column holds
the sink, with the reciprocal taken after the values are summed, is the softmax in base e with the sink
beside the row. -/

@[expose] public section

set_option maxRecDepth 16384

noncomputable section

namespace Cert.Attn

open Idealize.ShloMosaic

/-- The base-two logarithm of e, as the reciprocal of the logarithm of two. -/
def log2e : EReal := Ideal.div 1 (Ideal.log ((2 : ℝ) : EReal))

/-- It is a real number. -/
theorem log2e_eq : log2e = (((Real.log 2)⁻¹ : ℝ) : EReal) := by
  have h2 : Real.log 2 ≠ 0 := (Real.log_pos (by norm_num)).ne'
  rw [log2e, Ideal.log_coe, if_neg (by norm_num), Ideal.div_coe h2, one_mul, one_div]

theorem inv_log_two_pos : (0 : ℝ) < (Real.log 2)⁻¹ := inv_pos.mpr (Real.log_pos (by norm_num))

theorem log2e_nonneg : (0 : EReal) ≤ log2e := by
  rw [log2e_eq]; exact_mod_cast inv_log_two_pos.le

theorem log2e_ne_top : log2e ≠ ⊤ := by rw [log2e_eq]; exact EReal.coe_ne_top _

/-- It goes over a sum. -/
theorem log2e_mul_add (x y : EReal) : log2e * (x + y) = log2e * x + log2e * y :=
  EReal.left_distrib_of_nonneg_of_ne_top log2e_nonneg log2e_ne_top x y

/-- It goes over a sum of finitely many terms. -/
theorem log2e_mul_sum {ι : Type} (s : Finset ι) (f : ι → EReal) : log2e * ∑ i ∈ s, f i = ∑ i ∈ s, log2e * f i := by
  classical
  induction s using Finset.induction_on with
  | empty => simp
  | insert a s ha ih => rw [Finset.sum_insert ha, Finset.sum_insert ha, log2e_mul_add, ih]

theorem log2e_mul_bot : log2e * ⊥ = ⊥ := by
  rw [log2e_eq]; exact EReal.coe_mul_bot_of_pos inv_log_two_pos

theorem log2e_mul_top : log2e * ⊤ = ⊤ := by
  rw [log2e_eq]; exact EReal.coe_mul_top_of_pos inv_log_two_pos

/-- It goes over a difference. -/
theorem log2e_mul_sub (x y : EReal) : log2e * x - log2e * y = log2e * (x - y) := by
  rw [sub_eq_add_neg, sub_eq_add_neg, log2e_mul_add, mul_neg]

/-- It goes over a maximum. -/
theorem log2e_mul_max (x y : EReal) : max (log2e * x) (log2e * y) = log2e * max x y := by
  have hm : Monotone fun z : EReal => log2e * z := fun a b h => mul_le_mul_of_nonneg_left h log2e_nonneg
  exact (hm.map_max).symm

/-- Two to the power of `x · log2 e` is e to the power of `x`. -/
theorem exp2_log2e (x : EReal) : Ideal.exp2 (log2e * x) = Ideal.exp x := by
  induction x using EReal.rec with
  | bot => rw [log2e_mul_bot]; rfl
  | top => rw [log2e_mul_top]; rfl
  | coe r =>
    have h2 : Real.log 2 ≠ 0 := (Real.log_pos (by norm_num)).ne'
    rw [log2e_eq, ← EReal.coe_mul, Ideal.exp2_coe, Ideal.exp_coe]
    congr 1
    show (2 : ℝ) ^ ((Real.log 2)⁻¹ * r) = Real.exp r
    rw [Real.rpow_def_of_pos (by norm_num)]
    congr 1
    field_simp

/-- A maximum over a row: the fold from the least element is the supremum. -/
theorem fold_max_eq_sup (f : Fin 256 → EReal) : Finset.univ.fold max ⊥ f = Finset.univ.sup f := rfl

/-- A nonnegative real factor goes over a sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The sum of finitely many reals, taken over the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- THE SOFTMAX ROW. `t` are the row's scores (column 0 masked), `sk` the sink: the kernel's row `s` holds
    `log2 e` times each of them, the sink in column 0. Dividing after the values are summed, or each weight
    before, is the same. -/
theorem softmax_row (t s v w : Fin 256 → EReal) (sk : EReal) (h0 : t 0 = ⊥) (hs0 : s 0 = log2e * sk)
    (hs : ∀ j, j ≠ 0 → s j = log2e * t j) (hw0 : w 0 = 0) (hw : ∀ j, j ≠ 0 → t j ≠ ⊥ → w j = v j)
    (hsk : sk ≠ ⊥) (hsk' : sk ≠ ⊤) (ht : ∀ j, t j ≠ ⊤) :
    (∑ j, Ideal.exp2 (s j - Finset.univ.fold max ⊥ s) * w j)
        * Ideal.div 1 (∑ j, Ideal.exp2 (s j - Finset.univ.fold max ⊥ s))
      = ∑ j, v j * Ideal.div (Ideal.exp (t j - max (Finset.univ.fold max ⊥ t) sk))
          ((∑ j, Ideal.exp (t j - max (Finset.univ.fold max ⊥ t) sk))
            + Ideal.exp (sk - max (Finset.univ.fold max ⊥ t) sk)) := by
  classical
  set M : EReal := max (Finset.univ.fold max ⊥ t) sk with hM
  -- the kernel's maximum is `log2 e` times the reference's
  have hmax : Finset.univ.fold max ⊥ s = log2e * M := by
    rw [hM, fold_max_eq_sup, fold_max_eq_sup]
    apply le_antisymm
    · refine Finset.sup_le fun j _ => ?_
      by_cases hj : j = 0
      · rw [hj, hs0]; exact mul_le_mul_of_nonneg_left (le_max_right _ _) log2e_nonneg
      · rw [hs j hj]
        exact mul_le_mul_of_nonneg_left (le_trans (Finset.le_sup (Finset.mem_univ j)) (le_max_left _ _)) log2e_nonneg
    · rw [← log2e_mul_max]
      refine max_le ?_ (hs0 ▸ Finset.le_sup (f := s) (Finset.mem_univ 0))
      obtain ⟨j, -, hj⟩ := Finset.exists_mem_eq_sup Finset.univ Finset.univ_nonempty t
      rw [hj]
      by_cases hj0 : j = 0
      · rw [hj0, h0, log2e_mul_bot]; exact bot_le
      · rw [← hs j hj0]; exact Finset.le_sup (f := s) (Finset.mem_univ j)
  -- the maximum is a real number
  have hMb : M ≠ ⊥ := fun h => hsk (le_bot_iff.mp (h ▸ le_max_right _ _))
  have hMt : M ≠ ⊤ := by
    rw [hM, fold_max_eq_sup]
    obtain ⟨j, -, hj⟩ := Finset.exists_mem_eq_sup Finset.univ Finset.univ_nonempty t
    rw [hj]
    rcases max_choice (t j) sk with h | h <;> rw [h]
    · exact ht j
    · exact hsk'
  obtain ⟨r, hr⟩ : ∃ r : ℝ, M = (r : EReal) := ⟨M.toReal, (EReal.coe_toReal hMt hMb).symm⟩
  obtain ⟨k, hk⟩ : ∃ k : ℝ, sk = (k : EReal) := ⟨sk.toReal, (EReal.coe_toReal hsk' hsk).symm⟩
  -- the weights
  have e0 : Ideal.exp2 (s 0 - Finset.univ.fold max ⊥ s) = Ideal.exp (sk - M) := by
    rw [hmax, hs0, log2e_mul_sub, exp2_log2e]
  have ej : ∀ j, j ≠ 0 → Ideal.exp2 (s j - Finset.univ.fold max ⊥ s) = Ideal.exp (t j - M) := fun j hj => by
    rw [hmax, hs j hj, log2e_mul_sub, exp2_log2e]
  have r0 : Ideal.exp (t 0 - M) = 0 := by
    rw [h0, EReal.bot_sub]; rfl
  -- each is a nonnegative real
  have hreal : ∀ j, ∃ a : ℝ, 0 ≤ a ∧ Ideal.exp (t j - M) = (a : EReal) := fun j => by
    rcases eq_or_ne (t j) ⊥ with h | h
    · exact ⟨0, le_refl _, by rw [h, EReal.bot_sub]; rfl⟩
    · refine ⟨Real.exp ((t j).toReal - r), (Real.exp_pos _).le, ?_⟩
      rw [← Ideal.exp_coe, EReal.coe_sub, EReal.coe_toReal (ht j) h, hr]
  choose a ha hae using hreal
  have hsum : (∑ j, Ideal.exp2 (s j - Finset.univ.fold max ⊥ s))
      = (∑ j, Ideal.exp (t j - M)) + Ideal.exp (sk - M) := by
    rw [← Finset.add_sum_erase _ _ (Finset.mem_univ (0 : Fin 256)),
      ← Finset.add_sum_erase _ (fun j => Ideal.exp (t j - M)) (Finset.mem_univ (0 : Fin 256)), e0, r0, zero_add, add_comm]
    exact congrArg (· + _) (Finset.sum_congr rfl fun j hj => ej j (Finset.ne_of_mem_erase hj))
  have hS : (∑ j, Ideal.exp (t j - M)) + Ideal.exp (sk - M)
      = (((∑ j, a j) + Real.exp (k - r) : ℝ) : EReal) := by
    rw [Finset.sum_congr rfl fun j _ => hae j, hr, hk, ← EReal.coe_sub, Ideal.exp_coe, EReal.coe_add, coe_sum]
  have hpos : 0 < (∑ j, a j) + Real.exp (k - r) :=
    add_pos_of_nonneg_of_pos (Finset.sum_nonneg fun j _ => ha j) (Real.exp_pos _)
  rw [hsum, hS, Ideal.div_coe hpos.ne', one_mul, sum_mul_coe _ _ _ (one_div_pos.mpr hpos).le]
  refine Finset.sum_congr rfl fun j _ => ?_
  rw [Ideal.div_coe hpos.ne']
  by_cases hj : j = 0
  · rw [hj, hw0, r0, mul_zero, zero_mul, mul_zero]
  · rcases eq_or_ne (t j) ⊥ with h | h
    · rw [ej j hj, h, EReal.bot_sub, Ideal.exp_bot, zero_mul, zero_mul, mul_zero]
    · rw [ej j hj, hw j hj h, mul_comm (Ideal.exp _) (v j), mul_assoc]

end Cert.Attn

end
-- ==== Proof.TileRead.lean ====
module

public import proofs.«01_k».proof.Proof.Tiles
public import proofs.«01_k».proof.Proof.Softmax
public import Idealize.ShloMosaic.Lib.WordCmp

/-! A tile of the kernel read at a query row and a lane: the head its lane belongs to, and that head's softmax
row over the keys of two blocks. -/

@[expose] public section

set_option maxRecDepth 16384

noncomputable section

namespace Cert.Attn

open Idealize.ShloMosaic

/-- The pattern of minus infinity is the least extended real. -/
theorem ofBits_neg_inf : Ideal.ofBits .f32 0xFF800000#32 = ⊥ := by simp [Ideal.ofBits, Ideal.ieee]

/-- What a head's row comes to, from its scores `s` and its values `w` in base two: the weights are divided by
    their sum after the values are summed. -/
def rowOut (s w : Fin 256 → EReal) : EReal :=
  (∑ j, Ideal.exp2 (s j - Finset.univ.fold max ⊥ s) * w j) * Ideal.div 1 (∑ j, Ideal.exp2 (s j - Finset.univ.fold max ⊥ s))

end Cert.Attn

namespace Cert.KernelIdeal.Attn

open Cert.Attn
open Cert.KernelIdeal Cert.KernelIdeal.Gen Idealize.ShloMosaic Idealize.ShloMosaic.TcCoe Idealize.SL.Sem

theorem weights_at (s : FVec Ideal S128x256 .f32) (i : Fin 128) (j : Fin 256) :
    weights s (ix2 i j) = Ideal.exp2 (s (ix2 i j) - Finset.univ.fold max ⊥ fun j : Fin 256 => s (ix2 i j)) := by
  pointwise [weights]
  rw [ofBits_neg_inf]
  rfl

theorem recip_at (s : FVec Ideal S128x256 .f32) (i l : Fin 128) :
    recip s (ix2 i l) = Ideal.div 1 (∑ j : Fin 256, weights s (ix2 i j)) := by
  pointwise [recip]

/-- Lanes below 64 are the tile's first head, the others its second. -/
theorem lane_lt (l : Fin 128) : IntOp.cmpi .slt (BitVec.ofNat 32 (l : ℕ)) 64#32 = if (l : ℕ) < 64 then 1#1 else 0#1 := by
  revert l; decide +kernel

theorem lane_ge (l : Fin 128) : IntOp.cmpi .sge (BitVec.ofNat 32 (l : ℕ)) 64#32 = if 64 ≤ (l : ℕ) then 1#1 else 0#1 := by
  revert l; decide +kernel

theorem row_pos (j : Fin 256) : IntOp.cmpi .sgt (BitVec.ofNat 32 (j : ℕ)) 0#32 = if j ≠ 0 then 1#1 else 0#1 := by
  revert j; decide +kernel

theorem keepLow_at (x : FVec Ideal S256x128 .bf16) (j : Fin 256) (l : Fin 128) :
    keepLow x (ix2 j l) = if (l : ℕ) < 64 ∧ j ≠ 0 then x (ix2 j l) else (0 : EReal) := by
  pointwise [keepLow, k0_pay5, k0_pay8]
  rw [lane_lt, row_pos]
  by_cases h : (l : ℕ) < 64 <;> by_cases h' : j = 0 <;> simp [h, h', Scalar.select, IntOp.andi]

theorem keepHigh_at (x : FVec Ideal S256x128 .bf16) (j : Fin 256) (l : Fin 128) :
    keepHigh x (ix2 j l) = if 64 ≤ (l : ℕ) ∧ j ≠ 0 then x (ix2 j l) else (0 : EReal) := by
  pointwise [keepHigh, k0_pay6, k0_pay8]
  rw [lane_ge, row_pos]
  by_cases h : 64 ≤ (l : ℕ) <;> by_cases h' : j = 0 <;> simp [h, h', Scalar.select, IntOp.andi]

theorem scores_at (q : FVec Ideal S128x128 .bf16) (k : FVec Ideal S256x128 .bf16) (b : FVec Ideal S1x1x128x256 .f32) (i : Fin 128) (j : Fin 256) :
    scores q k b (ix2 i j) = (∑ l : Fin 128, q (ix2 i l) * k (ix2 j l)) + b (ix4 0 0 i j) := by
  pointwise [scores]

/-- The scores against the lower lanes' keys: only those lanes count, and row 0 has the table alone. -/
theorem scores_low (q : FVec Ideal S128x128 .bf16) (k : FVec Ideal S256x128 .bf16) (b : FVec Ideal S1x1x128x256 .f32) (i : Fin 128) (j : Fin 256) :
    scores q (keepLow k) b (ix2 i j)
      = (if j = 0 then (0 : EReal) else ∑ l : Fin 64, q (ix2 i ⟨l, by omega⟩) * k (ix2 j ⟨l, by omega⟩)) + b (ix4 0 0 i j) := by
  rw [scores_at]
  refine congrArg (· + _) ?_
  rw [Fin.sum_univ_two_halves 64 64 rfl (fun l : Fin 128 => q (ix2 i l) * keepLow k (ix2 j l))]
  simp only [keepLow_at]
  by_cases h : j = 0
  · simp [h]
  · simp [h]

theorem scores_high (q : FVec Ideal S128x128 .bf16) (k : FVec Ideal S256x128 .bf16) (b : FVec Ideal S1x1x128x256 .f32) (i : Fin 128) (j : Fin 256) :
    scores q (keepHigh k) b (ix2 i j)
      = (if j = 0 then (0 : EReal) else ∑ l : Fin 64, q (ix2 i ⟨64 + l, by omega⟩) * k (ix2 j ⟨64 + l, by omega⟩)) + b (ix4 0 0 i j) := by
  rw [scores_at]
  refine congrArg (· + _) ?_
  rw [Fin.sum_univ_two_halves 64 64 rfl (fun l : Fin 128 => q (ix2 i l) * keepHigh k (ix2 j l))]
  simp only [keepHigh_at]
  by_cases h : j = 0
  · simp [h]
  · have hx : ∀ x : Fin 64, ¬ 64 ≤ (x : ℕ) := fun x => by omega
    simp [h, hx]

/-- A tile at a lane of its first head. -/
theorem tile_low (q : FVec Ideal S128x128 .bf16) (klo khi vlo vhi : FVec Ideal S256x128 .bf16) (b0 b1 : FVec Ideal S1x1x128x256 .f32)
    (i : Fin 128) (l : Fin 128) (hl : (l : ℕ) < 64) :
    tile q klo khi vlo vhi b0 b1 (ix2 i l)
      = rowOut (fun j => (if j = 0 then (0 : EReal) else ∑ e : Fin 64, q (ix2 i ⟨e, by omega⟩) * klo (ix2 j ⟨e, by omega⟩)) + b0 (ix4 0 0 i j))
          (fun j => if j = 0 then 0 else vlo (ix2 j l)) := by
  pointwise [tile, tileOut, k0_pay7, stack]
  rw [lane_lt, if_pos hl]
  simp only [weights_at, recip_at, scores_low, keepLow_at, keepHigh_at, hl, not_le.mpr hl, false_and, if_false, mul_zero, Finset.sum_const_zero,
    add_zero, true_and, rowOut, ite_not]
  rfl

theorem tile_high (q : FVec Ideal S128x128 .bf16) (klo khi vlo vhi : FVec Ideal S256x128 .bf16) (b0 b1 : FVec Ideal S1x1x128x256 .f32)
    (i : Fin 128) (l : Fin 128) (hl : 64 ≤ (l : ℕ)) :
    tile q klo khi vlo vhi b0 b1 (ix2 i l)
      = rowOut (fun j => (if j = 0 then (0 : EReal) else ∑ e : Fin 64, q (ix2 i ⟨64 + e, by omega⟩) * khi (ix2 j ⟨64 + e, by omega⟩)) + b1 (ix4 0 0 i j))
          (fun j => if j = 0 then 0 else vhi (ix2 j l)) := by
  pointwise [tile, tileOut, k0_pay7, stack]
  rw [lane_lt, if_neg (not_lt.mpr hl)]
  simp only [weights_at, recip_at, scores_high, keepLow_at, keepHigh_at, hl, not_lt.mpr hl, false_and, if_false, mul_zero, Finset.sum_const_zero,
    zero_add, true_and, rowOut, ite_not]
  rfl

end Cert.KernelIdeal.Attn

end
-- ==== Proof.Host.lean ====
module

public import proofs.«01_k».proof.Proof.TileRead
public import Idealize.ShloMosaic.Lib.Pipeline.ValueKit

/-! The arrays the host prepares for the attention kernel, read at an index. -/

@[expose] public section

set_option maxRecDepth 16384

noncomputable section

namespace Cert.KernelIdeal.Attn

open Cert.Attn
open Cert.KernelIdeal Cert.KernelIdeal.Gen Idealize.ShloMosaic Idealize.ShloMosaic.TcCoe Idealize.SL.Sem

variable {F : FTy → Type} [FloatOps F]

/-- How far each key of two blocks lies before each query of the second. -/
def dist : IVec S128x256 32 :=
  subi (broadcastInDim S128x256 ![0, 1] bcast_S128x1_S128x256_0_1 (addi (broadcastInDim S128x1 ![] bcast_S_S128x1 (constantI S_ 32 128#32))
      (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

/-- The distance with the negative ones at zero. -/
def dist0 : IVec S128x256 32 := maxsi dist (broadcastInDim S128x256 ![] bcast_S_S128x256 (constantI S_ 32 0#32))

/-- The bucket of each distance. -/
def bucket : IVec S128x256 32 :=
  select (cmpi .slt dist0 (broadcastInDim S128x256 ![] bcast_S_S128x256 (constantI S_ 32 16#32))) dist0
    (minsi (addi (broadcastInDim S128x256 ![] bcast_S_S128x256 (constantI S_ 32 16#32))
      (fptosi 32 (mulf (Host.divf (Host.log (Host.divf (sitofp (F := F) .f32 (maxsi dist0 (broadcastInDim S128x256 ![] bcast_S_S128x256 (constantI S_ 32 1#32))))
            (broadcastInDim S128x256 ![] bcast_S_S128x256 (constant S_ .f32 0x41800000#32))))
          (broadcastInDim S128x256 ![] bcast_S_S128x256 (constant S_ .f32 0x40051592#32)))
        (broadcastInDim S128x256 ![] bcast_S_S128x256 (constant S_ .f32 0x41800000#32)))))
      (broadcastInDim S128x256 ![] bcast_S_S128x256 (constantI S_ 32 31#32)))

/-- Which buckets are which: one where a distance's bucket is the last coordinate. -/
def oneHot : FVec F S128x256x32 .f32 :=
  uitofp .f32 (cmpi .eq (broadcastInDim S128x256x32 ![0, 1, 2] bcast_S128x256x1_S128x256x32_0_1_2
      (broadcastInDim S128x256x1 ![0, 1] bcast_S128x256_S128x256x1_0_1 (bucket (F := F))))
    (broadcastInDim S128x256x32 ![0, 1, 2] bcast_S1x1x32_S128x256x32_0_1_2 (broadcastInDim S1x1x32 ![2] bcast_S32_S1x1x32_2 (iotaInDim S32 32 0))))

/-- The bias of each head at each query and key. -/
def biasTab (rb : FVec F S32x16 .f32) : FVec F S16x128x256 .f32 :=
  Host.dotGeneral dot_S32x16_S128x256x32_S16x128x256_0_2_1_01_n_n (some .fp32) rb (oneHot (F := F))

/-- Which keys are in the window of which queries. -/
def inWindow : IVec S128x256 1 :=
  andi (cmpi .sge dist (broadcastInDim S128x256 ![] bcast_S_S128x256 (constantI S_ 32 0#32)))
    (cmpi .slt dist (broadcastInDim S128x256 ![] bcast_S_S128x256 (constantI S_ 32 128#32)))

/-- The window of the first block's queries: the keys of the block before are not there. -/
def inFirst : IVec S128x256 1 :=
  andi inWindow (broadcastInDim S128x256 ![0, 1] bcast_S1x256_S128x256_0_1
    (cmpi .sge (broadcastInDim S1x256 ![1] bcast_S256_S1x256_1 (iotaInDim S256 32 0)) (broadcastInDim S1x256 ![] bcast_S_S1x256 (constantI S_ 32 128#32))))

/-- One over the logarithm of two. -/
def log2eArr : FVec F S_ .f32 := Host.divf (constant S_ .f32 0x3F800000#32) (Host.log (constant S_ .f32 0x40000000#32))

/-- One table: the bias in the window, the least value outside it, the sink at key 0. -/
def oneTable (w : IVec S128x256 1) (rb : FVec F S32x16 .f32) (sk : FVec F S16 .f32) : FVec F S16x128x256 .f32 :=
  select (broadcastInDim S16x128x256 ![0, 1, 2] bcast_S1x1x256_S16x128x256_0_1_2 (broadcastInDim S1x1x256 ![1, 2] bcast_S1x256_S1x1x256_1_2
      (cmpi .eq (broadcastInDim S1x256 ![1] bcast_S256_S1x256_1 (iotaInDim S256 32 0)) (broadcastInDim S1x256 ![] bcast_S_S1x256 (constantI S_ 32 0#32)))))
    (broadcastInDim S16x128x256 ![0, 1, 2] bcast_S16x1x1_S16x128x256_0_1_2 (broadcastInDim S16x1x1 ![0] bcast_S16_S16x1x1_0
      (mulf sk (broadcastInDim S16 ![] bcast_S_S16 log2eArr))))
    (select (broadcastInDim S16x128x256 ![0, 1, 2] bcast_S1x128x256_S16x128x256_0_1_2 (broadcastInDim S1x128x256 ![1, 2] bcast_S128x256_S1x128x256_1_2 w))
      (mulf (biasTab rb) (broadcastInDim S16x128x256 ![] bcast_S_S16x128x256 log2eArr))
      (broadcastInDim S16x128x256 ![] bcast_S_S16x128x256 (constant S_ .f32 0xFF800000#32)))

/-- The two tables, the first block's first. -/
def tables (rb : FVec F S32x16 .f32) (sk : FVec F S16 .f32) : FVec F S2x16x128x256 .f32 :=
  concatenate S2x16x128x256 0 [
    ⟨S1x16x128x256, broadcastInDim S1x16x128x256 ![1, 2, 3] bcast_S16x128x256_S1x16x128x256_1_2_3 (oneTable inFirst rb sk)⟩,
    ⟨S1x16x128x256, broadcastInDim S1x16x128x256 ![1, 2, 3] bcast_S16x128x256_S1x16x128x256_1_2_3 (oneTable inWindow rb sk)⟩]
    concatenates_S1x16x128x256_S1x16x128x256_S2x16x128x256_d0

/-- Keys or values as rows of 256 lanes, four heads of 64. -/
def flat (k : FVec F S8x4096x4x64 .f32) : FVec F S32768x256 .f32 := shapeCast S32768x256 k shapeCasts_S8x4096x4x64_S32768x256

/-- Neighbouring heads swapped. -/
def swapped (k : FVec F S8x4096x4x64 .f32) : FVec F S32768x256 .f32 :=
  shapeCast S32768x256 (Host.reverse [2] (shapeCast S32768x2x2x64 (flat k) shapeCasts_S32768x256_S32768x2x2x64)) shapeCasts_S32768x2x2x64_S32768x256

/-- The array the kernel's blocks are cut from: scaled queries, gates, keys and swapped keys, values and swapped values. -/
def u3 (q : FVec F S8x4096x16x64 .f32) (k v : FVec F S8x4096x4x64 .f32) (g : FVec F S8x4096x2048 .f32) : FVec F S8x4096x4096 .bf16 :=
  shapeCast S8x4096x4096 (truncf .bf16 (concatenate S32768x4096 1 [
    ⟨S32768x1024, shapeCast S32768x1024 (mulf q (broadcastInDim S8x4096x16x64 ![] bcast_S_S8x4096x16x64 (mulf (constant S_ .f32 0x3E000000#32) log2eArr)))
      shapeCasts_S8x4096x16x64_S32768x1024⟩,
    ⟨S32768x2048, shapeCast S32768x2048 g shapeCasts_S8x4096x2048_S32768x2048⟩, ⟨S32768x256, flat k⟩, ⟨S32768x256, swapped k⟩,
    ⟨S32768x256, flat v⟩, ⟨S32768x256, swapped v⟩] concatenates_S32768x1024_S32768x2048_S32768x256_S32768x256_S32768x256_S32768x256_S32768x4096_d1)
    bitsLt_bf16_f32) shapeCasts_S32768x4096_S8x4096x4096

variable (m : (ℓ : Loc nD τ sig) → Buf (Elt F) ℓ)

/-- The region finds that array. -/
theorem V_u3 (c : Dev nD) : V m c main_v17 = u3 (m ((c : Thread nD τ).loc main_arg0)) (m ((c : Thread nD τ).loc main_arg1))
    (m ((c : Thread nD τ).loc main_arg2)) (m ((c : Thread nD τ).loc main_arg3)) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

set_option maxHeartbeats 2000000 in
/-- And the two tables. -/
theorem V_tables (c : Dev nD) : V m c main_v89 = tables (m ((c : Thread nD τ).loc main_arg4)) (m ((c : Thread nD τ).loc main_arg5)) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  refine congrArg₂ (fun a b : FVec F S1x16x128x256 .f32 => concatenate S2x16x128x256 0 [⟨S1x16x128x256, a⟩, ⟨S1x16x128x256, b⟩]
    concatenates_S1x16x128x256_S1x16x128x256_S2x16x128x256_d0) ?_ ?_
  · after_results_simp
    rfl
  · after_results_simp
    rfl

end Cert.KernelIdeal.Attn

end
-- ==== Proof.BlockRead.lean ====
module

public import proofs.«01_k».proof.Proof.TileRead
public import Idealize.ShloMosaic.Lib.Pipeline.ValueKit

/-! What one grid point stores, read at a query row and a head's lane: that head's softmax row. -/

@[expose] public section

set_option maxRecDepth 16384

noncomputable section

namespace Cert.KernelIdeal.Attn

open Cert.Attn
open Cert.KernelIdeal Cert.KernelIdeal.Gen Idealize.ShloMosaic Idealize.ShloMosaic.TcCoe Idealize.SL.Sem

/-- Where head `h`'s keys begin in the doubled keys: the copy in which they lie on the lanes the head's queries lie on. -/
def kcol (h : Fin 16) : ℕ :=
  if (h : ℕ) % 2 = 0 then (if (h : ℕ) / 4 % 2 = 0 then 0 else 256) + (h : ℕ) / 8 * 128
  else (if (h : ℕ) / 4 % 2 = 0 then 256 else 0) + (h : ℕ) / 8 * 128 + 64

theorem kcol_lt (h : Fin 16) (e : Fin 64) : kcol h + e < 512 := by
  have : ∀ h : Fin 16, kcol h ≤ 448 := by decide
  have := this h; omega

/-- A head's scores at query row `i` and key row `j`. -/
def headScore (q : FVec Ideal S128x1024 .bf16) (k : FVec Ideal S256x512 .bf16) (b : Fin 16 → FVec Ideal S1x1x128x256 .f32)
    (i : Fin 128) (h : Fin 16) (j : Fin 256) : EReal :=
  (if j = 0 then (0 : EReal) else ∑ e : Fin 64, q (ix2 i ⟨64 * h + e, by omega⟩) * k (ix2 j ⟨kcol h + e, kcol_lt h e⟩)) + b h (ix4 0 0 i j)

/-- A STORED ELEMENT is its head's softmax row over its head's values. -/
theorem blockOut_at (q : FVec Ideal S128x1024 .bf16) (k v : FVec Ideal S256x512 .bf16) (b : Fin 16 → FVec Ideal S1x1x128x256 .f32)
    (i : Fin 128) (h : Fin 16) (e : Fin 64) :
    blockOut q k v (b 0) (b 1) (b 2) (b 3) (b 4) (b 5) (b 6) (b 7) (b 8) (b 9) (b 10) (b 11) (b 12) (b 13) (b 14) (b 15)
        (ix3 0 i ⟨64 * h + e, by omega⟩)
      = rowOut (headScore q k b i h) (fun j => if j = 0 then 0 else v (ix2 j ⟨kcol h + e, kcol_lt h e⟩)) := by
  pointwise [blockOut]
  fin_cases h
  all_goals simp (disch := omega) only [dif_pos, dif_neg]
  all_goals first
    | refine (tile_low _ _ _ _ _ _ _ i _ (by show _ < 64; dsimp only; omega)).trans ?_
    | refine (tile_high _ _ _ _ _ _ _ i _ (by show 64 ≤ _; dsimp only; omega)).trans ?_
  all_goals
    refine congrArg₂ rowOut (funext fun j => ?_) (funext fun j => ?_)
    · rw [headScore]
      refine congrArg (· + _) (if_congr Iff.rfl rfl (Finset.sum_congr rfl fun x _ => ?_))
      pointwise
      refine Ideal.mul_congr (congrArg q ?_) (congrArg k ?_)
      · exact (ix2_inj ..).2 ⟨rfl, Fin.ext (by first | rfl | (dsimp only; omega))⟩
      · exact (ix2_inj ..).2 ⟨rfl, Fin.ext (by norm_num [kcol] <;> omega)⟩
    · refine if_congr Iff.rfl rfl ?_
      pointwise
      exact congrArg v ((ix2_inj ..).2 ⟨rfl, Fin.ext (by norm_num [kcol] <;> omega)⟩)

end Cert.KernelIdeal.Attn

end
-- ==== Proof.Bucket.lean ====
module

public import proofs.«01_k».proof.Proof.Softmax
public import Idealize.ShloMosaic.Lib.WordCmp

/-! The relative distance of a key from a query and the bucket its bias is in, as words: the window test is the
test of the naturals, and the bucket of a key in the window is one of the 32. -/

@[expose] public section

set_option maxRecDepth 16384

noncomputable section

namespace Cert.Attn

open Idealize.ShloMosaic

/-- Query `i` of a block less key `j` of that block and the one before. -/
def distW (i : Fin 128) (j : Fin 256) : BitVec 32 := IntOp.subi (IntOp.addi 128#32 (BitVec.ofNat 32 i)) (BitVec.ofNat 32 j)

/-- The bucket of a distance: below 16 the distance itself, then by its logarithm. -/
def bucketW (d : BitVec 32) : BitVec 32 :=
  Scalar.select (IntOp.cmpi CmpIPredicate.slt (IntOp.maxsi d 0#32) 16#32) (IntOp.maxsi d 0#32)
    (IntOp.minsi (IntOp.addi 16#32 (Ideal.fptosi 32
      (Ideal.div (Ideal.log (Ideal.div (((IntOp.maxsi (IntOp.maxsi d 0#32) 1#32).toInt : ℝ) : EReal) (Ideal.ofBits FTy.f32 0x41800000#32)))
        (Ideal.ofBits FTy.f32 0x40051592#32) * Ideal.ofBits FTy.f32 0x41800000#32))) 31#32)

/-- Key `j` is not after query `i` and less than 128 before it. -/
def near (i : Fin 128) (j : Fin 256) : Prop := (j : ℕ) ≤ 128 + i ∧ (i : ℕ) < j

instance (i : Fin 128) (j : Fin 256) : Decidable (near i j) := by unfold near; infer_instance

theorem distW_toInt (i : Fin 128) (j : Fin 256) : (distW i j).toInt = 128 + (i : ℤ) - j := by
  have hi := i.isLt
  have hj := j.isLt
  rw [distW, IntOp.subi, IntOp.addi, BitVec.toInt_sub, BitVec.toInt_add, WordCmp.toInt_ofNat_of_lt (a := i) (by omega),
    WordCmp.toInt_ofNat_of_lt (a := j) (by omega), show (128#32).toInt = 128 from rfl, Int.bmod_def, Int.bmod_def]
  norm_num
  omega

/-- The window test on words. -/
theorem window_word (i : Fin 128) (j : Fin 256) :
    IntOp.andi (IntOp.cmpi CmpIPredicate.sge (distW i j) 0#32) (IntOp.cmpi CmpIPredicate.slt (distW i j) 128#32)
      = BitVec.ofBool (decide (near i j)) := by
  have h1 : (0#32).sle (distW i j) = decide ((j : ℕ) ≤ 128 + i) := by
    rw [BitVec.sle_eq_decide, distW_toInt]
    congr 1
    simp only [BitVec.toInt_zero, eq_iff_iff]
    omega
  have h2 : (distW i j).slt 128#32 = decide ((i : ℕ) < j) := by
    rw [BitVec.slt_eq_decide, distW_toInt]
    congr 1
    rw [show (128#32).toInt = 128 from rfl, eq_iff_iff]
    omega
  simp only [IntOp.cmpi, h1, h2, IntOp.andi, near]
  by_cases a : (j : ℕ) ≤ 128 + i <;> by_cases b : (i : ℕ) < j <;> simp [a, b]

theorem ofBits_two : Ideal.ofBits .f32 0x40000000#32 = ((2 : ℝ) : EReal) := by
  simp [Ideal.ofBits, Ideal.ieee]
  rw [← EReal.coe_mul]
  norm_num

theorem ofBits_eighth : Ideal.ofBits .f32 0x3E000000#32 = ((1 / 8 : ℝ) : EReal) := by
  simp [Ideal.ofBits, Ideal.ieee]
  rw [← EReal.coe_mul]
  norm_num

theorem ofBits_sixteen : Ideal.ofBits .f32 0x41800000#32 = ((16 : ℝ) : EReal) := by
  simp [Ideal.ofBits, Ideal.ieee]
  rw [← EReal.coe_mul]
  norm_num

theorem ofBits_log8 : Ideal.ofBits .f32 0x40051592#32 = ((8721810 / 4194304 : ℝ) : EReal) := by
  simp [Ideal.ofBits, Ideal.ieee]
  rw [← EReal.coe_mul]
  norm_num

theorem near_dist {i : Fin 128} {j : Fin 256} (h : near i j) : ∃ n : ℕ, n < 128 ∧ distW i j = BitVec.ofNat 32 n := by
  obtain ⟨h1, h2⟩ := h
  refine ⟨128 + i - j, by omega, BitVec.eq_of_toInt_eq ?_⟩
  rw [distW_toInt, WordCmp.toInt_ofNat_of_lt (by omega)]
  omega

/-- The logarithmic bucket is a small natural. -/
theorem log_bucket (n : ℕ) (h : 16 ≤ n) (hn : n < 128) :
    ∃ z : ℕ, z < 1000 ∧ Ideal.fptosi 32
      (Ideal.div (Ideal.log (Ideal.div ((n : ℝ) : EReal) (Ideal.ofBits FTy.f32 0x41800000#32)))
        (Ideal.ofBits FTy.f32 0x40051592#32) * Ideal.ofBits FTy.f32 0x41800000#32) = BitVec.ofNat 32 z := by
  have hn0 : (16 : ℝ) ≤ n := by exact_mod_cast h
  have hn1 : (n : ℝ) ≤ 128 := by exact_mod_cast hn.le
  rw [ofBits_sixteen, ofBits_log8, Ideal.div_coe (y := 16) (by norm_num), ← EReal.coe_mul, Ideal.log_coe, if_neg (by rw [not_le]; positivity),
    Ideal.div_coe (by norm_num), ← EReal.coe_mul, ← EReal.coe_mul]
  set r : ℝ := Real.log (↑n * (1 / 16)) * (1 / (8721810 / 4194304)) * 16 with hr
  have hl0 : 0 ≤ Real.log (↑n * (1 / 16)) := Real.log_nonneg (by linarith)
  have hl1 : Real.log (↑n * (1 / 16)) ≤ 8 := by
    refine (Real.log_le_sub_one_of_pos (by positivity)).trans ?_
    linarith
  have hr0 : 0 ≤ r := by rw [hr]; positivity
  have hr1 : r < 1000 := by rw [hr]; norm_num; linarith
  refine ⟨⌊r⌋.toNat, ?_, ?_⟩
  · have := Int.floor_nonneg.mpr hr0
    have h2 : ⌊r⌋ < 1000 := Int.floor_lt.mpr (by exact_mod_cast hr1)
    omega
  · have h1 := Int.floor_nonneg.mpr hr0
    have h2 : ⌊r⌋ < 1000 := Int.floor_lt.mpr (by exact_mod_cast hr1)
    rw [Ideal.fptosi, Ideal.toIntClamped_coe, if_pos hr0, min_eq_right (by norm_num; omega), max_eq_right (by norm_num; omega)]
    apply BitVec.eq_of_toInt_eq
    rw [WordCmp.toInt_ofNat_of_lt (by norm_num; omega), BitVec.toInt_ofInt, Int.bmod_def]
    norm_num
    omega

/-- The bucket of a distance in the window is one of the 32. -/
theorem bucketW_lt {i : Fin 128} {j : Fin 256} (h : near i j) : (bucketW (distW i j)).toNat < 32 := by
  obtain ⟨n, hn, e⟩ := near_dist h
  have h0 : IntOp.maxsi (BitVec.ofNat 32 n) 0#32 = BitVec.ofNat 32 n := by
    rw [IntOp.maxsi, BitVec.slt_eq_decide, WordCmp.toInt_ofNat_of_lt (by omega)]
    split_ifs with hc
    · rfl
    · have : n = 0 := by
        rw [WordCmp.toInt_ofNat_of_lt (a := n) (by omega), decide_eq_true_eq] at hc
        omega
      rw [this]
  rw [e, bucketW, h0, Scalar.select]
  split_ifs with hc
  · have : n < 16 := by
      by_contra hlt
      simp only [IntOp.cmpi, BitVec.slt_eq_decide, WordCmp.toInt_ofNat_of_lt (w := 32) (a := n) (by omega)] at hc
      rw [show (16#32).toInt = 16 from rfl, decide_eq_false (by omega)] at hc
      exact absurd hc (by decide)
    rw [BitVec.toNat_ofNat, Nat.mod_eq_of_lt (by omega)]
    omega
  · have h16 : 16 ≤ n := by
      by_contra hlt
      apply hc
      simp only [IntOp.cmpi, BitVec.slt_eq_decide, WordCmp.toInt_ofNat_of_lt (w := 32) (a := n) (by omega)]
      rw [show (16#32).toInt = 16 from rfl, decide_eq_true (by omega)]
      rfl
    have h1 : IntOp.maxsi (BitVec.ofNat 32 n) 1#32 = BitVec.ofNat 32 n := by
      rw [IntOp.maxsi, BitVec.slt_eq_decide, if_pos]
      rw [WordCmp.toInt_ofNat_of_lt (a := n) (by omega), show (1#32).toInt = 1 from rfl, decide_eq_true (by omega)]
    obtain ⟨z, hz, ez⟩ := log_bucket n h16 hn
    rw [h1, WordCmp.toInt_ofNat_of_lt (by omega), Int.cast_natCast, ez, IntOp.addi, ← BitVec.ofNat_add, IntOp.minsi, BitVec.slt_eq_decide,
      WordCmp.toInt_ofNat_of_lt (by norm_num; omega)]
    split_ifs with hm
    · rw [show (31#32).toInt = 31 from rfl] at hm
      have : 16 + z < 31 := by have := of_decide_eq_true hm; omega
      rw [BitVec.toNat_ofNat, Nat.mod_eq_of_lt (by omega)]
      omega
    · decide

/-- The row of the bias table for a query and a key. -/
def bucketIx (i : Fin 128) (j : Fin 256) : Fin 32 := ⟨(bucketW (distW i j)).toNat % 32, Nat.mod_lt _ (by norm_num)⟩

theorem bucketW_eq {i : Fin 128} {j : Fin 256} (h : near i j) : bucketW (distW i j) = BitVec.ofNat 32 (bucketIx i j) := by
  apply BitVec.eq_of_toNat_eq
  have := bucketW_lt h
  rw [BitVec.toNat_ofNat]
  show _ = (bucketW (distW i j)).toNat % 32 % 2 ^ 32
  omega

/-- A product with a row that is one at a bucket and zero elsewhere picks that bucket's entry. -/
theorem one_hot_pick (t : Fin 32 → EReal) (x : Fin 32) :
    ∑ y : Fin 32, t y * (((IntOp.cmpi CmpIPredicate.eq (BitVec.ofNat 32 x) (BitVec.ofNat 32 y)).toNat : ℝ) : EReal) = t x := by
  rw [Finset.sum_eq_single x]
  · simp [IntOp.cmpi]
  · intro y _ hy
    have : (BitVec.ofNat 32 (x : ℕ) == BitVec.ofNat 32 (y : ℕ)) = false := by
      rw [beq_eq_false_iff_ne]
      intro h
      apply hy
      have h' := congrArg BitVec.toNat h
      rw [BitVec.toNat_ofNat, BitVec.toNat_ofNat, Nat.mod_eq_of_lt (by omega), Nat.mod_eq_of_lt (by omega)] at h'
      exact Fin.ext h'.symm
    rw [IntOp.cmpi, this]
    simp
  · intro h; exact absurd (Finset.mem_univ x) h

end Cert.Attn

end
-- ==== Proof.HostRead.lean ====
module

public import proofs.«01_k».proof.Proof.Host
public import proofs.«01_k».proof.Proof.BlockRead
public import proofs.«01_k».proof.Proof.Bucket

/-! The arrays the host prepares, read at an index over the extended reals: the scaled queries, the keys and
values at the column a head's tile looks for them in, and the two tables. -/

@[expose] public section

set_option maxRecDepth 16384

noncomputable section

namespace Cert.KernelIdeal.Attn

open Cert.Attn
open Cert.KernelIdeal Cert.KernelIdeal.Gen Idealize.ShloMosaic Idealize.ShloMosaic.TcCoe Idealize.SL.Sem

theorem dist_at (i : Fin 128) (j : Fin 256) : dist (ix2 i j) = distW i j := by
  pointwise [dist]
  rfl

theorem bucket_at (i : Fin 128) (j : Fin 256) : bucket (F := Ideal) (ix2 i j) = bucketW (distW i j) := by
  pointwise [bucket, dist0]
  rw [dist_at]
  rfl

/-- A key in the window has its bucket's bias. -/
theorem bias_at (rb : FVec Ideal S32x16 .f32) (h : Fin 16) (i : Fin 128) (j : Fin 256) (hn : near i j) :
    biasTab rb (ix3 h i j) = rb (ix2 (bucketIx i j) h) := by
  pointwise [biasTab, oneHot]
  rw [bucket_at, bucketW_eq hn]
  exact one_hot_pick (fun x => rb (ix2 x h)) (bucketIx i j)

theorem inWindow_at (i : Fin 128) (j : Fin 256) : inWindow (ix2 i j) = BitVec.ofBool (decide (near i j)) := by
  pointwise [inWindow]
  rw [dist_at]
  exact window_word i j

theorem inFirst_at (i : Fin 128) (j : Fin 256) : inFirst (ix2 i j) = BitVec.ofBool (decide (near i j ∧ 128 ≤ (j : ℕ))) := by
  pointwise [inFirst]
  rw [inWindow_at]
  have : IntOp.cmpi CmpIPredicate.sge (BitVec.ofNat 32 (j : ℕ)) 128#32 = BitVec.ofBool (decide (128 ≤ (j : ℕ))) := by
    revert j; decide +kernel
  rw [this]
  by_cases a : near i j <;> by_cases b : 128 ≤ (j : ℕ) <;> simp [a, b, IntOp.andi]

/-- One table at an index. -/
theorem oneTable_at (w : IVec S128x256 1) (p : Fin 128 → Fin 256 → Prop) [∀ i j, Decidable (p i j)]
    (hw : ∀ i j, w (ix2 i j) = BitVec.ofBool (decide (p i j))) (hp : ∀ i j, p i j → near i j)
    (rb : FVec Ideal S32x16 .f32) (sk : FVec Ideal S16 .f32) (h : Fin 16) (i : Fin 128) (j : Fin 256) :
    oneTable w rb sk (ix3 h i j)
      = if j = 0 then sk (ix1 h) * log2e else if p i j then rb (ix2 (bucketIx i j) h) * log2e else ⊥ := by
  pointwise [oneTable, log2eArr]
  rw [ofBits_two, ofBits_neg_inf, hw, Scalar.select, Scalar.select]
  have h0 : IntOp.cmpi CmpIPredicate.eq (BitVec.ofNat 32 (j : ℕ)) 0#32 = BitVec.ofBool (decide (j = 0)) := by
    revert j; decide +kernel
  rw [h0]
  by_cases a : j = 0
  · simp [a, log2e]
  · by_cases b : p i j
    · rw [bias_at rb h i j (hp i j b)]; simp [a, b, log2e]
    · simp [a, b]

/-- The two tables at an index. -/
theorem tables_at (rb : FVec Ideal S32x16 .f32) (sk : FVec Ideal S16 .f32) (w : Fin 2) (h : Fin 16) (i : Fin 128) (j : Fin 256) :
    tables rb sk (ix4 w h i j)
      = if j = 0 then sk (ix1 h) * log2e else if near i j ∧ (w = 0 → 128 ≤ (j : ℕ)) then rb (ix2 (bucketIx i j) h) * log2e else ⊥ := by
  pointwise [tables]
  have e0 := oneTable_at inFirst (fun i j => near i j ∧ 128 ≤ (j : ℕ)) inFirst_at (fun _ _ h => h.1) rb sk h i j
  have e1 := oneTable_at inWindow near inWindow_at (fun _ _ h => h) rb sk h i j
  have hw : w = 0 ∨ w = 1 := by omega
  rcases hw with rfl | rfl <;> simp [e0, e1]

theorem u3_q (q : FVec Ideal S8x4096x16x64 .f32) (k v : FVec Ideal S8x4096x4x64 .f32) (g : FVec Ideal S8x4096x2048 .f32)
    (b : Fin 8) (s : Fin 4096) (h : Fin 16) (e : Fin 64) :
    u3 q k v g (ix3 b s ⟨64 * h + e, by omega⟩) = q (ix4 b s h e) * (((1 / 8 : ℝ) : EReal) * log2e) := by
  pointwise [u3, log2eArr]
  rw [dif_pos (by omega), ofBits_eighth, ofBits_two]
  simp [log2e]

theorem u3_k (q : FVec Ideal S8x4096x16x64 .f32) (k v : FVec Ideal S8x4096x4x64 .f32) (g : FVec Ideal S8x4096x2048 .f32)
    (b : Fin 8) (s : Fin 4096) (h : Fin 4) (e : Fin 64) :
    u3 q k v g (ix3 b s ⟨3072 + (64 * h + e), by omega⟩) = k (ix4 b s h e) := by
  pointwise [u3, flat]
  rw [dif_neg (by omega), dif_neg (by omega), dif_pos (by omega)]
  congr 2 <;> exact Fin.ext (by dsimp only; omega)

theorem u3_v (q : FVec Ideal S8x4096x16x64 .f32) (k v : FVec Ideal S8x4096x4x64 .f32) (g : FVec Ideal S8x4096x2048 .f32)
    (b : Fin 8) (s : Fin 4096) (h : Fin 4) (e : Fin 64) :
    u3 q k v g (ix3 b s ⟨3584 + (64 * h + e), by omega⟩) = v (ix4 b s h e) := by
  pointwise [u3, flat]
  rw [dif_neg (by omega), dif_neg (by omega), dif_neg (by omega), dif_neg (by omega), dif_pos (by omega)]
  congr 2 <;> exact Fin.ext (by dsimp only; omega)

/-- The swapped half holds the other head of the pair. -/
theorem swapped_at (k : FVec Ideal S8x4096x4x64 .f32) (b : Fin 8) (s : Fin 4096) (h : Fin 4) (e : Fin 64) :
    swapped k (ix2 ⟨b * 4096 + s, by omega⟩ ⟨64 * h + e, by omega⟩) = k (ix4 b s ⟨h / 2 * 2 + (1 - h % 2), by omega⟩ e) := by
  pointwise [swapped, flat]
  simp
  congr 2 <;> exact Fin.ext (by simp only [Fin.val_rev]; omega)

theorem u3_k' (q : FVec Ideal S8x4096x16x64 .f32) (k v : FVec Ideal S8x4096x4x64 .f32) (g : FVec Ideal S8x4096x2048 .f32)
    (b : Fin 8) (s : Fin 4096) (h : Fin 4) (e : Fin 64) :
    u3 q k v g (ix3 b s ⟨3328 + (64 * h + e), by omega⟩) = k (ix4 b s ⟨h / 2 * 2 + (1 - h % 2), by omega⟩ e) := by
  rw [← swapped_at k b s h e]
  pointwise [u3]
  rw [dif_neg (by omega), dif_neg (by omega), dif_neg (by omega), dif_pos (by omega)]
  congr 2
  exact Fin.ext (by dsimp only; omega)

theorem u3_v' (q : FVec Ideal S8x4096x16x64 .f32) (k v : FVec Ideal S8x4096x4x64 .f32) (g : FVec Ideal S8x4096x2048 .f32)
    (b : Fin 8) (s : Fin 4096) (h : Fin 4) (e : Fin 64) :
    u3 q k v g (ix3 b s ⟨3840 + (64 * h + e), by omega⟩) = v (ix4 b s ⟨h / 2 * 2 + (1 - h % 2), by omega⟩ e) := by
  rw [← swapped_at v b s h e]
  pointwise [u3]
  rw [dif_neg (by omega), dif_neg (by omega), dif_neg (by omega), dif_neg (by omega), dif_neg (by omega)]
  congr 2
  exact Fin.ext (by dsimp only; omega)

/-- Where head `h`'s tile looks for its key, it finds the key head it shares. -/
theorem u3_key (q : FVec Ideal S8x4096x16x64 .f32) (k v : FVec Ideal S8x4096x4x64 .f32) (g : FVec Ideal S8x4096x2048 .f32)
    (b : Fin 8) (s : Fin 4096) (h : Fin 16) (e : Fin 64) (hb : 3072 + (kcol h + e) < 4096) :
    u3 q k v g (ix3 b s ⟨3072 + (kcol h + e), hb⟩) = k (ix4 b s ⟨h / 4, by omega⟩ e) := by
  have hh := h.isLt
  by_cases a : (h : ℕ) % 2 = 0 <;> by_cases c : (h : ℕ) / 4 % 2 = 0
  · exact (congrArg (fun x => u3 q k v g (ix3 b s x)) (Fin.ext (by simp only [kcol, a, c, if_true]; omega))).trans
      ((u3_k q k v g b s ⟨h / 8 * 2, by omega⟩ e).trans (congrArg (fun x => k (ix4 b s x e)) (Fin.ext (by dsimp only; omega))))
  · exact (congrArg (fun x => u3 q k v g (ix3 b s x)) (Fin.ext (by simp only [kcol, a, c, if_true, if_false]; omega))).trans
      ((u3_k' q k v g b s ⟨h / 8 * 2, by omega⟩ e).trans (congrArg (fun x => k (ix4 b s x e)) (Fin.ext (by dsimp only; omega))))
  · exact (congrArg (fun x => u3 q k v g (ix3 b s x)) (Fin.ext (by simp only [kcol, a, c, if_true, if_false]; omega))).trans
      ((u3_k' q k v g b s ⟨h / 8 * 2 + 1, by omega⟩ e).trans (congrArg (fun x => k (ix4 b s x e)) (Fin.ext (by dsimp only; omega))))
  · exact (congrArg (fun x => u3 q k v g (ix3 b s x)) (Fin.ext (by simp only [kcol, a, c, if_false]; omega))).trans
      ((u3_k q k v g b s ⟨h / 8 * 2 + 1, by omega⟩ e).trans (congrArg (fun x => k (ix4 b s x e)) (Fin.ext (by dsimp only; omega))))

/-- And its value. -/
theorem u3_val (q : FVec Ideal S8x4096x16x64 .f32) (k v : FVec Ideal S8x4096x4x64 .f32) (g : FVec Ideal S8x4096x2048 .f32)
    (b : Fin 8) (s : Fin 4096) (h : Fin 16) (e : Fin 64) (hb : 3584 + (kcol h + e) < 4096) :
    u3 q k v g (ix3 b s ⟨3584 + (kcol h + e), hb⟩) = v (ix4 b s ⟨h / 4, by omega⟩ e) := by
  have hh := h.isLt
  by_cases a : (h : ℕ) % 2 = 0 <;> by_cases c : (h : ℕ) / 4 % 2 = 0
  · exact (congrArg (fun x => u3 q k v g (ix3 b s x)) (Fin.ext (by simp only [kcol, a, c, if_true]; omega))).trans
      ((u3_v q k v g b s ⟨h / 8 * 2, by omega⟩ e).trans (congrArg (fun x => v (ix4 b s x e)) (Fin.ext (by dsimp only; omega))))
  · exact (congrArg (fun x => u3 q k v g (ix3 b s x)) (Fin.ext (by simp only [kcol, a, c, if_true, if_false]; omega))).trans
      ((u3_v' q k v g b s ⟨h / 8 * 2, by omega⟩ e).trans (congrArg (fun x => v (ix4 b s x e)) (Fin.ext (by dsimp only; omega))))
  · exact (congrArg (fun x => u3 q k v g (ix3 b s x)) (Fin.ext (by simp only [kcol, a, c, if_true, if_false]; omega))).trans
      ((u3_v' q k v g b s ⟨h / 8 * 2 + 1, by omega⟩ e).trans (congrArg (fun x => v (ix4 b s x e)) (Fin.ext (by dsimp only; omega))))
  · exact (congrArg (fun x => u3 q k v g (ix3 b s x)) (Fin.ext (by simp only [kcol, a, c, if_false]; omega))).trans
      ((u3_v q k v g b s ⟨h / 8 * 2 + 1, by omega⟩ e).trans (congrArg (fun x => v (ix4 b s x e)) (Fin.ext (by dsimp only; omega))))

end Cert.KernelIdeal.Attn

end
-- ==== Proof.Ref.lean ====
module

public import proofs.«01_k».proof.Proof.Bucket
public import proofs.«01_k».proof.Proof.Gen.ReferenceIdeal.Run
public import Idealize.ShloMosaic.Lib.Pipeline.ValueKit

/-! The reference's arrays in its own order, from its five arguments. -/

@[expose] public section

set_option maxRecDepth 16384

noncomputable section

namespace Cert.ReferenceIdeal.Attn

open Cert.Attn
open Cert.ReferenceIdeal Cert.ReferenceIdeal.Gen Cert.ReferenceIdeal.Value Idealize.ShloMosaic Idealize.ShloMosaic.TcCoe Idealize.SL.Sem

variable {F : FTy → Type} [FloatOps F]

def dist : IVec S128x256 32 :=
  subi (broadcastInDim S128x256 ![0, 1] bcast_S128x1_S128x256_0_1 (addi (broadcastInDim S128x1 ![] bcast_S_S128x1 (constantI S_ 32 128#32))
      (broadcastInDim S128x1 ![0] bcast_S128_S128x1_0 (iotaInDim S128 32 0))))
    (broadcastInDim S128x256 ![0, 1] bcast_S1x256_S128x256_0_1 (broadcastInDim S1x256 ![1] bcast_S256_S1x256_1 (iotaInDim S256 32 0)))

def dist0 : IVec S128x256 32 := maxsi dist (broadcastInDim S128x256 ![] bcast_S_S128x256 (constantI S_ 32 0#32))

/-- The bucket of each distance. -/
def bucket : IVec S128x256 32 :=
  select (cmpi .slt dist0 (broadcastInDim S128x256 ![] bcast_S_S128x256 (constantI S_ 32 16#32))) dist0
    (minsi (addi (broadcastInDim S128x256 ![] bcast_S_S128x256 (constantI S_ 32 16#32))
      (fptosi 32 (mulf (Host.divf (Host.log (Host.divf (sitofp (F := F) .f32 (maxsi dist0 (broadcastInDim S128x256 ![] bcast_S_S128x256 (constantI S_ 32 1#32))))
            (broadcastInDim S128x256 ![] bcast_S_S128x256 (constant S_ .f32 0x41800000#32))))
          (broadcastInDim S128x256 ![] bcast_S_S128x256 (constant S_ .f32 0x40051592#32)))
        (broadcastInDim S128x256 ![] bcast_S_S128x256 (constant S_ .f32 0x41800000#32)))))
      (broadcastInDim S128x256 ![] bcast_S_S128x256 (constantI S_ 32 31#32)))

/-- The bucket as a row of the bias table, negative ones counted from its end. -/
def rowIx : IVec S128x256 32 :=
  select (cmpi .slt (bucket (F := F)) (broadcastInDim S128x256 ![] bcast_S_S128x256 (constantI S_ 32 0#32)))
    (addi (bucket (F := F)) (broadcastInDim S128x256 ![] bcast_S_S128x256 (constantI S_ 32 32#32))) (bucket (F := F))

/-- The bias of each head at each query and key. -/
def bias (rb : FVec F S32x16 .f32) : FVec F S4x4x128x256 .f32 :=
  shapeCast S4x4x128x256 (transpose S16x128x256 [2, 0, 1] (Host.gather gather_S32x16_S128x256x1_S128x256x16_2_0_n_n_0_2_116 rb
    (broadcastInDim S128x256x1 ![0, 1] bcast_S128x256_S128x256x1_0_1 (rowIx (F := F)))) transposes_S128x256x16_S16x128x256_2_0_1) shapeCasts_S16x128x256_S4x4x128x256

/-- Which keys a query attends to: the near ones that are there. -/
def mask : IVec S8x32x4x4x128x256 1 :=
  broadcastInDim S8x32x4x4x128x256 ![0, 1, 2, 3, 4, 5] bcast_S1x32x1x1x128x256_S8x32x4x4x128x256_0_1_2_3_4_5
    (broadcastInDim S1x32x1x1x128x256 ![1, 4, 5] bcast_S32x128x256_S1x32x1x1x128x256_1_4_5
      (andi (broadcastInDim S32x128x256 ![0, 1, 2] bcast_S1x128x256_S32x128x256_0_1_2 (broadcastInDim S1x128x256 ![1, 2] bcast_S128x256_S1x128x256_1_2
          (andi (cmpi .sge dist (broadcastInDim S128x256 ![] bcast_S_S128x256 (constantI S_ 32 0#32)))
            (cmpi .slt dist (broadcastInDim S128x256 ![] bcast_S_S128x256 (constantI S_ 32 128#32))))))
        (broadcastInDim S32x128x256 ![0, 1, 2] bcast_S32x1x256_S32x128x256_0_1_2
          (cmpi .sge (addi (broadcastInDim S32x1x256 ![0, 1, 2] bcast_S32x1x1_S32x1x256_0_1_2
              (subi (muli (broadcastInDim S32x1x1 ![0] bcast_S32_S32x1x1_0 (iotaInDim S32 32 0)) (broadcastInDim S32x1x1 ![] bcast_S_S32x1x1 (constantI S_ 32 128#32)))
                (broadcastInDim S32x1x1 ![] bcast_S_S32x1x1 (constantI S_ 32 128#32))))
              (broadcastInDim S32x1x256 ![0, 1, 2] bcast_S1x1x256_S32x1x256_0_1_2 (broadcastInDim S1x1x256 ![1, 2] bcast_S1x256_S1x1x256_1_2
                (broadcastInDim S1x256 ![1] bcast_S256_S1x256_1 (iotaInDim S256 32 0)))))
            (broadcastInDim S32x1x256 ![] bcast_S_S32x1x256 (constantI S_ 32 0#32))))))

/-- Keys or values of each block with those of the block before, zeros before the first. -/
def twoBlocks (k : FVec F S8x4096x4x64 .f32) : FVec F S8x32x256x4x64 .f32 :=
  concatenate S8x32x256x4x64 2 [
    ⟨S8x32x128x4x64, pad S8x32x128x4x64 ![0, 1, 0, 0, 0] ![0, 0, 0, 0, 0] ![0, 0, 0, 0, 0]
      (extractStridedSlice S8x31x128x4x64 ![0, 0, 0, 0, 0] (shapeCast S8x32x128x4x64 k shapeCasts_S8x4096x4x64_S8x32x128x4x64)
        slices_S8x32x128x4x64_S8x31x128x4x64_0_0_0_0_0) (sitofp .f32 (constantI S_ 32 0#32)) pads_S8x31x128x4x64_S8x32x128x4x64_000_100_000_000_000 h_S_⟩,
    ⟨S8x32x128x4x64, shapeCast S8x32x128x4x64 k shapeCasts_S8x4096x4x64_S8x32x128x4x64⟩] concatenates_S8x32x128x4x64_S8x32x128x4x64_S8x32x256x4x64_d2

/-- The masked scores. -/
def scores (q : FVec F S8x4096x16x64 .f32) (k : FVec F S8x4096x4x64 .f32) (rb : FVec F S32x16 .f32) : FVec F S8x32x4x4x128x256 .f32 :=
  select mask (addf (mulf (transpose S8x32x4x4x128x256 [0, 1, 2, 5, 4, 3]
      (Host.dotGeneral dot_S8x32x256x4x64_S8x32x128x4x4x64_S8x32x4x256x128x4_4_5_2_24_013_013 none (twoBlocks k)
        (shapeCast S8x32x128x4x4x64 q shapeCasts_S8x4096x16x64_S8x32x128x4x4x64)) transposes_S8x32x4x256x128x4_S8x32x4x4x128x256_0_1_2_5_4_3)
      (broadcastInDim S8x32x4x4x128x256 ![] bcast_S_S8x32x4x4x128x256 (constant S_ .f32 0x3E000000#32)))
      (broadcastInDim S8x32x4x4x128x256 ![0, 1, 2, 3, 4, 5] bcast_S1x1x4x4x128x256_S8x32x4x4x128x256_0_1_2_3_4_5
        (broadcastInDim S1x1x4x4x128x256 ![2, 3, 4, 5] bcast_S4x4x128x256_S1x1x4x4x128x256_2_3_4_5 (bias rb))))
    (broadcastInDim S8x32x4x4x128x256 ![] bcast_S_S8x32x4x4x128x256 (constant S_ .f32 0xFF800000#32))

def sink (sk : FVec F S16 .f32) : FVec F S8x32x4x4x128x1 .f32 :=
  broadcastInDim S8x32x4x4x128x1 ![0, 1, 2, 3, 4, 5] bcast_S1x1x4x4x1x1_S8x32x4x4x128x1_0_1_2_3_4_5 (shapeCast S1x1x4x4x1x1 sk shapeCasts_S16_S1x1x4x4x1x1)

/-- The greatest of a row's scores and the sink. -/
def top (t : FVec F S8x32x4x4x128x256 .f32) (sk : FVec F S16 .f32) : FVec F S8x32x4x4x128x1 .f32 :=
  maximumf (broadcastInDim S8x32x4x4x128x1 ![0, 1, 2, 3, 4] bcast_S8x32x4x4x128_S8x32x4x4x128x1_0_1_2_3_4
    (Host.reduce FloatOps.maximumf t (constant S_ .f32 0xFF800000#32) reducesTo_S8x32x4x4x128x256_S8x32x4x4x128_d5 h_S_)) (sink sk)

def exps (t : FVec F S8x32x4x4x128x256 .f32) (sk : FVec F S16 .f32) : FVec F S8x32x4x4x128x256 .f32 :=
  Host.exp (subf t (broadcastInDim S8x32x4x4x128x256 ![0, 1, 2, 3, 4, 5] bcast_S8x32x4x4x128x1_S8x32x4x4x128x256_0_1_2_3_4_5 (top t sk)))

/-- The attention weights. -/
def probs (t : FVec F S8x32x4x4x128x256 .f32) (sk : FVec F S16 .f32) : FVec F S8x32x4x4x128x256 .f32 :=
  Host.divf (exps t sk) (broadcastInDim S8x32x4x4x128x256 ![0, 1, 2, 3, 4, 5] bcast_S8x32x4x4x128x1_S8x32x4x4x128x256_0_1_2_3_4_5
    (addf (broadcastInDim S8x32x4x4x128x1 ![0, 1, 2, 3, 4] bcast_S8x32x4x4x128_S8x32x4x4x128x1_0_1_2_3_4
      (Host.reduceAdd (exps t sk) (constant S_ .f32 0x00000000#32) reducesTo_S8x32x4x4x128x256_S8x32x4x4x128_d5 h_S_)) (Host.exp (subf (sink sk) (top t sk)))))

/-- The reference's result. -/
def result (q : FVec F S8x4096x16x64 .f32) (k v : FVec F S8x4096x4x64 .f32) (rb : FVec F S32x16 .f32) (sk : FVec F S16 .f32) : FVec F S8x4096x1024 .bf16 :=
  truncf .bf16 (shapeCast S8x4096x1024 (transpose S8x32x128x4x4x64 [0, 1, 5, 2, 4, 3]
    (Host.dotGeneral dot_S8x32x256x4x64_S8x32x4x4x128x256_S8x32x4x64x4x128_2_5_4_34_013_012 none (twoBlocks v) (probs (scores q k rb) sk))
    transposes_S8x32x4x64x4x128_S8x32x128x4x4x64_0_1_5_2_4_3) shapeCasts_S8x32x128x4x4x64_S8x4096x1024) bitsLt_bf16_f32

/-- It is what the reference's run ends with. -/
theorem result_eq (m : (ℓ : Loc nD τ sig) → Buf (Elt F) ℓ) (c : Dev nD) :
    res_main_v96 m c = result (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) := rfl

end Cert.ReferenceIdeal.Attn

end
-- ==== Proof.RefRead.lean ====
module

public import proofs.«01_k».proof.Proof.Ref
public import proofs.«01_k».proof.Proof.TileRead
public import Idealize.ShloMosaic.Lib.WordCmp

/-! The reference read at an index over the extended reals: the masked score of a head's query and key, and the
weighted sum of the values. -/

@[expose] public section

set_option maxRecDepth 16384

noncomputable section

namespace Cert.ReferenceIdeal.Attn

open Cert.Attn
open Cert.ReferenceIdeal Cert.ReferenceIdeal.Gen Idealize.ShloMosaic Idealize.ShloMosaic.TcCoe Idealize.SL.Sem

/-- The bias table's rows picked by an index array: each start index is read signed and clamped. -/
theorem gather_rows (x : FVec Ideal S32x16 .f32) (idx : IVec S128x256x1 32) (i : Fin 128) (j : Fin 256) (h : Fin 16) :
    Host.gather gather_S32x16_S128x256x1_S128x256x16_2_0_n_n_0_2_116 x idx (ix3 i j h)
      = x (ix2 ⟨min (idx (ix3 i j 0)).toInt.toNat 31, by omega⟩ h) := by
  unfold Host.gather
  congr 1
  funext a
  refine Fin.ext ?_
  show gather_S32x16_S128x256x1_S128x256x16_2_0_n_n_0_2_116.start (ix3 i j h) idx a
    + gather_S32x16_S128x256x1_S128x256x16_2_0_n_n_0_2_116.batchCoord (ix3 i j h) a
    + gather_S32x16_S128x256x1_S128x256x16_2_0_n_n_0_2_116.offCoord (ix3 i j h) a = _
  have ha : a = 0 ∨ a = 1 := by
    match a with
    | ⟨0, _⟩ => exact Or.inl rfl
    | ⟨1, _⟩ => exact Or.inr rfl
  have hb : ∀ a, gather_S32x16_S128x256x1_S128x256x16_2_0_n_n_0_2_116.batchCoord (ix3 i j h) a = 0 := fun a =>
    GatherDims.batchCoord_eq_zero _ _ _ List.not_mem_nil
  rcases ha with rfl | rfl
  · rw [hb, GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have hs : gather_S32x16_S128x256x1_S128x256x16_2_0_n_n_0_2_116.siIdx (ix3 i j h)
        ⟨List.idxOf (0 : Fin 2) gather_S32x16_S128x256x1_S128x256x16_2_0_n_n_0_2_116.startIndexMap,
          List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hs]
    rfl
  · rw [hb]
    have h1 : gather_S32x16_S128x256x1_S128x256x16_2_0_n_n_0_2_116.start (ix3 i j h) idx 1 = 0 := by
      unfold GatherDims.start
      rw [dif_neg (by decide)]
    rw [h1]
    simp only [Nat.zero_add]
    unfold GatherDims.offCoord
    rw [dif_pos (by decide)]
    rfl

theorem dist_at (i : Fin 128) (j : Fin 256) : dist (ix2 i j) = distW i j := by
  pointwise [dist]
  rfl

theorem bucket_at (i : Fin 128) (j : Fin 256) : bucket (F := Ideal) (ix2 i j) = bucketW (distW i j) := by
  pointwise [bucket, dist0]
  rw [dist_at]
  rfl

/-- In the window the row of the table is the bucket. -/
theorem rowIx_at (i : Fin 128) (j : Fin 256) (hn : near i j) : rowIx (F := Ideal) (ix2 i j) = BitVec.ofNat 32 (bucketIx i j) := by
  pointwise [rowIx]
  rw [bucket_at, bucketW_eq hn, Scalar.select, if_neg]
  rw [IntOp.cmpi, BitVec.slt_eq_decide, WordCmp.toInt_ofNat_of_lt (a := bucketIx i j) (by have := (bucketIx i j).isLt; omega), decide_eq_false]
  · decide
  · simp

/-- In the window the bias is the bucket's entry. -/
theorem bias_at (rb : FVec Ideal S32x16 .f32) (kv g : Fin 4) (i : Fin 128) (j : Fin 256) (hn : near i j) :
    bias rb (ix4 kv g i j) = rb (ix2 (bucketIx i j) ⟨kv * 4 + g, by omega⟩) := by
  have e : bias rb (ix4 kv g i j) = Host.gather gather_S32x16_S128x256x1_S128x256x16_2_0_n_n_0_2_116 rb
      (broadcastInDim S128x256x1 ![0, 1] bcast_S128x256_S128x256x1_0_1 (rowIx (F := Ideal))) (ix3 i j ⟨kv * 4 + g, by omega⟩) := by
    pointwise [bias]
  rw [e, gather_rows]
  have e1 : broadcastInDim S128x256x1 ![0, 1] bcast_S128x256_S128x256x1_0_1 (rowIx (F := Ideal)) (ix3 i j 0)
      = BitVec.ofNat 32 (bucketIx i j) := by
    rw [← rowIx_at i j hn]
    pointwise []
  have hb := (bucketIx i j).isLt
  refine congrArg (fun x => rb (ix2 x _)) (Fin.ext ?_)
  show min (broadcastInDim S128x256x1 ![0, 1] bcast_S128x256_S128x256x1_0_1 (rowIx (F := Ideal)) (ix3 i j 0)).toInt.toNat 31 = _
  rw [e1, WordCmp.toInt_ofNat_of_lt (by omega)]
  omega

theorem start_word : ∀ (n : Fin 32) (j : Fin 256),
    IntOp.cmpi CmpIPredicate.sge (IntOp.addi (IntOp.subi (IntOp.muli (BitVec.ofNat 32 n) 128#32) 128#32) (BitVec.ofNat 32 j)) 0#32
      = BitVec.ofBool (decide (n = 0 → 128 ≤ (j : ℕ))) := by
  decide +kernel

theorem andi_bits (p q : Prop) [Decidable p] [Decidable q] :
    IntOp.andi (BitVec.ofBool (decide p)) (BitVec.ofBool (decide q)) = BitVec.ofBool (decide (p ∧ q)) := by
  by_cases a : p <;> by_cases c : q <;> simp [a, c, IntOp.andi]

/-- The mask: near, and not before the first block. -/
theorem mask_at (b : Fin 8) (n : Fin 32) (kv g : Fin 4) (i : Fin 128) (j : Fin 256) :
    mask (ix6 b n kv g i j) = BitVec.ofBool (decide (near i j ∧ (n = 0 → 128 ≤ (j : ℕ)))) := by
  pointwise [mask]
  rw [dist_at, start_word]
  erw [window_word]
  exact andi_bits _ _

/-- Two blocks' keys or values. -/
theorem twoBlocks_at (k : FVec Ideal S8x4096x4x64 .f32) (b : Fin 8) (n : Fin 32) (kv : Fin 4) (j : Fin 256) (e : Fin 64)
    (h : n = 0 → 128 ≤ (j : ℕ)) :
    twoBlocks k (ix5 b n j kv e) = k (ix4 b ⟨n * 128 + j - 128, by omega⟩ kv e) := by
  pointwise [twoBlocks]
  split_ifs with h1 h2
  · exact congrArg (fun x => k (ix4 b x kv e)) (Fin.ext (by dsimp only; omega))
  · exact absurd h2 (by have hn : (n : ℕ) ≠ 0 := fun h0 => by have := h (Fin.ext h0); omega
                        omega)
  all_goals exact congrArg (fun x => k (ix4 b x kv e)) (Fin.ext (by dsimp only; omega))

theorem twoBlocks_pad (k : FVec Ideal S8x4096x4x64 .f32) (b : Fin 8) (kv : Fin 4) (j : Fin 256) (e : Fin 64)
    (h : (j : ℕ) < 128) : twoBlocks k (ix5 b 0 j kv e) = 0 := by
  pointwise [twoBlocks]
  rw [dif_pos h, dif_neg (by simp)]
  show (((0#32).toInt : ℝ) : EReal) = 0
  simp

/-- A masked score. -/
theorem scores_at (q : FVec Ideal S8x4096x16x64 .f32) (k : FVec Ideal S8x4096x4x64 .f32) (rb : FVec Ideal S32x16 .f32)
    (b : Fin 8) (n : Fin 32) (kv g : Fin 4) (i : Fin 128) (j : Fin 256) :
    scores q k rb (ix6 b n kv g i j)
      = if near i j ∧ (n = 0 → 128 ≤ (j : ℕ)) then
          (∑ x : Fin 64, k (ix4 b ⟨n * 128 + j - 128, by omega⟩ kv x) * q (ix4 b ⟨n * 128 + i, by omega⟩ ⟨kv * 4 + g, by omega⟩ x))
            * ((1 / 8 : ℝ) : EReal) + rb (ix2 (bucketIx i j) ⟨kv * 4 + g, by omega⟩)
        else ⊥ := by
  pointwise [scores]
  rw [mask_at, ofBits_neg_inf, Scalar.select]
  by_cases h : near i j ∧ (n = 0 → 128 ≤ (j : ℕ))
  · rw [if_pos h, if_pos (by rw [decide_eq_true h]; rfl), bias_at rb kv g i j h.1, Cert.Attn.ofBits_eighth]
    simp only [twoBlocks_at k b n kv j _ h.2]
  · rw [if_neg h, if_neg (by rw [decide_eq_false h]; decide)]

/-- The scores of one row are those whose index drops to it. -/
theorem row_fiber (b : Fin 8) (n : Fin 32) (kv g : Fin 4) (i : Fin 128) (y : S8x32x4x4x128x256.Idx) :
    reducesTo_S8x32x4x4x128x256_S8x32x4x4x128_d5.drop y = ix5 b n kv g i ↔ ∃ j : Fin 256, ix6 b n kv g i j = y := by
  constructor
  · intro e
    refine ⟨y 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨j, rfl⟩
    funext a
    apply Fin.ext
    match a with
    | ⟨0, _⟩ => rfl
    | ⟨1, _⟩ => rfl
    | ⟨2, _⟩ => rfl
    | ⟨3, _⟩ => rfl
    | ⟨4, _⟩ => rfl

theorem row_max (t : FVec Ideal S8x32x4x4x128x256 .f32) (z : EReal) (b : Fin 8) (n : Fin 32) (kv g : Fin 4) (i : Fin 128) :
    Finset.fold (FloatOps.maximumf : Ideal .f32 → Ideal .f32 → Ideal .f32) z t (Finset.univ.filter fun y => reducesTo_S8x32x4x4x128x256_S8x32x4x4x128_d5.drop y = ix5 b n kv g i)
      = Finset.univ.fold max z fun j : Fin 256 => t (ix6 b n kv g i j) :=
  Finset.fold_filter_eq_fold_of_fiber (FloatOps.maximumf : Ideal .f32 → Ideal .f32 → Ideal .f32) _ (fun j : Fin 256 => (ix6 b n kv g i j : S8x32x4x4x128x256.Idx)) (fun _ _ e => congrFun e 5)
    (row_fiber b n kv g i) z t

theorem row_sum (t : FVec Ideal S8x32x4x4x128x256 .f32) (z : EReal) (b : Fin 8) (n : Fin 32) (kv g : Fin 4) (i : Fin 128) :
    Ideal.hostReduceAdd reducesTo_S8x32x4x4x128x256_S8x32x4x4x128_d5 t z (ix5 b n kv g i)
      = z + ∑ j : Fin 256, t (ix6 b n kv g i j) :=
  congrArg (z + ·) (Finset.sum_filter_eq_sum_of_fiber _ (fun j : Fin 256 => (ix6 b n kv g i j : S8x32x4x4x128x256.Idx)) (fun _ _ e => congrFun e 5)
    (row_fiber b n kv g i) t)

theorem sink_at (sk : FVec Ideal S16 .f32) (b : Fin 8) (n : Fin 32) (kv g : Fin 4) (i : Fin 128) :
    sink sk (ix6 b n kv g i 0) = sk (ix1 ⟨kv * 4 + g, by omega⟩) := by
  pointwise [sink]

theorem spread_one (x : FVec Ideal S8x32x4x4x128 .f32) (b : Fin 8) (n : Fin 32) (kv g : Fin 4) (i : Fin 128) :
    broadcastInDim S8x32x4x4x128x1 ![0, 1, 2, 3, 4] bcast_S8x32x4x4x128_S8x32x4x4x128x1_0_1_2_3_4 x (ix6 b n kv g i 0) = x (ix5 b n kv g i) := by
  pointwise []

theorem spread_row (x : FVec Ideal S8x32x4x4x128x1 .f32) (b : Fin 8) (n : Fin 32) (kv g : Fin 4) (i : Fin 128) (j : Fin 256) :
    broadcastInDim S8x32x4x4x128x256 ![0, 1, 2, 3, 4, 5] bcast_S8x32x4x4x128x1_S8x32x4x4x128x256_0_1_2_3_4_5 x (ix6 b n kv g i j)
      = x (ix6 b n kv g i 0) := by
  pointwise []

theorem max_at {s : Shape} (x y : FVec Ideal s .f32) (k : s.Idx) : maximumf x y k = max (x k) (y k) := rfl

theorem top_at (t : FVec Ideal S8x32x4x4x128x256 .f32) (sk : FVec Ideal S16 .f32) (b : Fin 8) (n : Fin 32) (kv g : Fin 4) (i : Fin 128) :
    top t sk (ix6 b n kv g i 0) = max (Finset.univ.fold max ⊥ fun j : Fin 256 => t (ix6 b n kv g i j)) (sk (ix1 ⟨kv * 4 + g, by omega⟩)) := by
  rw [top, max_at, spread_one, sink_at, Host.reduce_eq_fold,
    show (constant (F := Ideal) S_ .f32 0xFF800000#32) (Shape.Idx.first h_S_) = (⊥ : EReal) from ofBits_neg_inf]
  rw [row_max t ⊥ b n kv g i]

theorem exps_at (t : FVec Ideal S8x32x4x4x128x256 .f32) (sk : FVec Ideal S16 .f32) (b : Fin 8) (n : Fin 32) (kv g : Fin 4) (i : Fin 128) (j : Fin 256) :
    exps t sk (ix6 b n kv g i j) = Ideal.exp (t (ix6 b n kv g i j) - top t sk (ix6 b n kv g i 0)) := by
  rw [← spread_row (top t sk) b n kv g i j]
  rfl

/-- A weight. -/
theorem probs_at (t : FVec Ideal S8x32x4x4x128x256 .f32) (sk : FVec Ideal S16 .f32) (b : Fin 8) (n : Fin 32) (kv g : Fin 4) (i : Fin 128) (j : Fin 256) :
    probs t sk (ix6 b n kv g i j) = Ideal.div (Ideal.exp (t (ix6 b n kv g i j) - top t sk (ix6 b n kv g i 0)))
      ((∑ y : Fin 256, Ideal.exp (t (ix6 b n kv g i y) - top t sk (ix6 b n kv g i 0)))
        + Ideal.exp (sk (ix1 ⟨kv * 4 + g, by omega⟩) - top t sk (ix6 b n kv g i 0))) := by
  have e : ∀ y : Fin 256, Ideal.exp (t (ix6 b n kv g i y) - top t sk (ix6 b n kv g i 0)) = exps t sk (ix6 b n kv g i y) := fun y => (exps_at t sk b n kv g i y).symm
  rw [e, Finset.sum_congr rfl fun y _ => e y, ← sink_at sk b n kv g i]
  refine (congrArg (Ideal.div _) (spread_row _ b n kv g i j)).trans (congrArg (Ideal.div _) ?_)
  refine congrArg (· + Ideal.exp (sink sk (ix6 b n kv g i 0) - top t sk (ix6 b n kv g i 0))) ((spread_one _ b n kv g i).trans ?_)
  refine (row_sum (exps t sk) _ b n kv g i).trans ?_
  rw [show (constant (F := Ideal) S_ .f32 0x00000000#32) (Shape.Idx.first h_S_) = (0 : EReal) from Ideal.ofBits_zero_f32, zero_add]

/-- The result: the values summed with the weights. -/
theorem result_at (q : FVec Ideal S8x4096x16x64 .f32) (k v : FVec Ideal S8x4096x4x64 .f32) (rb : FVec Ideal S32x16 .f32) (sk : FVec Ideal S16 .f32)
    (b : Fin 8) (s : Fin 4096) (l : Fin 1024) :
    result q k v rb sk (ix3 b s l)
      = ∑ j : Fin 256, twoBlocks v (ix5 b ⟨s / 128, by omega⟩ j ⟨l / 256, by omega⟩ ⟨l % 64, by omega⟩)
          * probs (scores q k rb) sk (ix6 b ⟨s / 128, by omega⟩ ⟨l / 256, by omega⟩ ⟨l / 64 % 4, by omega⟩ ⟨s % 128, by omega⟩ j) := by
  pointwise [result]

end Cert.ReferenceIdeal.Attn

end
-- ==== Proof.Row.lean ====
module

public import proofs.«01_k».proof.Proof.HostRead
public import proofs.«01_k».proof.Proof.RefRead

/-! One row of one head: what the kernel's tile makes of the prepared arrays is what the reference makes of the
queries, keys and values. -/

@[expose] public section

set_option maxRecDepth 16384

noncomputable section

namespace Cert.Attn

open Cert.KernelIdeal Idealize.ShloMosaic

/-- Neither infinity. -/
def Finite {S : Shape} (x : FVec Ideal S .f32) : Prop := ∀ y, x y ≠ ⊤ ∧ x y ≠ ⊥

/-- A finite sum of products of finite numbers is finite. -/
theorem sum_finite {n : ℕ} (f g : Fin n → EReal) (hf : ∀ x, f x ≠ ⊤ ∧ f x ≠ ⊥) (hg : ∀ x, g x ≠ ⊤ ∧ g x ≠ ⊥) :
    ∃ r : ℝ, ∑ x, f x * g x = (r : EReal) := by
  refine ⟨∑ x, (f x).toReal * (g x).toReal, ?_⟩
  rw [← coe_sum]
  refine Finset.sum_congr rfl fun x _ => ?_
  rw [EReal.coe_mul, EReal.coe_toReal (hf x).1 (hf x).2, EReal.coe_toReal (hg x).1 (hg x).2]

variable (q : FVec Ideal S8x4096x16x64 .f32) (k v : FVec Ideal S8x4096x4x64 .f32) (g : FVec Ideal S8x4096x2048 .f32)
  (rb : FVec Ideal S32x16 .f32) (sk : FVec Ideal S16 .f32)

/-- The scores a row's key gets, at the head's own numbers. -/
theorem score_head (b : Fin 8) (n : Fin 32) (i : Fin 128) (h : Fin 16) (j : Fin 256) :
    Cert.ReferenceIdeal.Attn.scores q k rb (ix6 b n ⟨h / 4, by omega⟩ ⟨h % 4, by omega⟩ i j)
      = if near i j ∧ (n = 0 → 128 ≤ (j : ℕ)) then
          (∑ x : Fin 64, k (ix4 b ⟨n * 128 + j - 128, by omega⟩ ⟨h / 4, by omega⟩ x) * q (ix4 b ⟨n * 128 + i, by omega⟩ h x))
            * ((1 / 8 : ℝ) : EReal) + rb (ix2 (bucketIx i j) h)
        else ⊥ := by
  rw [Cert.ReferenceIdeal.Attn.scores_at]
  have e : (⟨(h : ℕ) / 4 * 4 + (h : ℕ) % 4, by omega⟩ : Fin 16) = h := Fin.ext (by dsimp only; omega)
  simp only [e]

theorem row_eq (hq : Finite q) (hk : Finite k) (hrb : Finite rb) (hsk : Finite sk)
    (b : Fin 8) (n : Fin 32) (w : Fin 2) (hw : w = 0 ↔ n = 0)
    (Q : FVec Ideal S128x1024 .bf16) (K W : FVec Ideal S256x512 .bf16) (B : Fin 16 → FVec Ideal S1x1x128x256 .f32)
    (hQ : ∀ (i : Fin 128) (l : Fin 1024), Q (ix2 i l) = Cert.KernelIdeal.Attn.u3 q k v g (ix3 b ⟨n * 128 + i, by omega⟩ ⟨l, by omega⟩))
    (hK : ∀ (j : Fin 256) (l : Fin 512), (n = 0 → 128 ≤ (j : ℕ)) →
      K (ix2 j l) = Cert.KernelIdeal.Attn.u3 q k v g (ix3 b ⟨n * 128 + j - 128, by omega⟩ ⟨3072 + l, by omega⟩))
    (hW : ∀ (j : Fin 256) (l : Fin 512), (n = 0 → 128 ≤ (j : ℕ)) →
      W (ix2 j l) = Cert.KernelIdeal.Attn.u3 q k v g (ix3 b ⟨n * 128 + j - 128, by omega⟩ ⟨3584 + l, by omega⟩))
    (hB : ∀ (h : Fin 16) (i : Fin 128) (j : Fin 256), B h (ix4 0 0 i j) = Cert.KernelIdeal.Attn.tables rb sk (ix4 w h i j))
    (i : Fin 128) (h : Fin 16) (e : Fin 64) :
    rowOut (Cert.KernelIdeal.Attn.headScore Q K B i h)
        (fun j => if j = 0 then 0 else W (ix2 j ⟨Cert.KernelIdeal.Attn.kcol h + e, Cert.KernelIdeal.Attn.kcol_lt h e⟩))
      = Cert.ReferenceIdeal.Attn.result q k v rb sk (ix3 b ⟨n * 128 + i, by omega⟩ ⟨64 * h + e, by omega⟩) := by
  have hh := h.isLt
  have near0 : ¬ near i 0 := fun hn => absurd hn.2 (by simp)
  rw [rowOut, softmax_row
    (fun j => Cert.ReferenceIdeal.Attn.scores q k rb (ix6 b n ⟨h / 4, by omega⟩ ⟨h % 4, by omega⟩ i j))
    (Cert.KernelIdeal.Attn.headScore Q K B i h)
    (fun j => Cert.ReferenceIdeal.Attn.twoBlocks v (ix5 b n j ⟨h / 4, by omega⟩ e)) _ (sk (ix1 h)),
    Cert.ReferenceIdeal.Attn.result_at]
  · refine Finset.sum_congr rfl fun j _ => ?_
    have e1 : (⟨(n * 128 + i : ℕ) / 128, by omega⟩ : Fin 32) = n := Fin.ext (by dsimp only; omega)
    have e2 : (⟨(64 * h + e : ℕ) / 256, by omega⟩ : Fin 4) = ⟨h / 4, by omega⟩ := Fin.ext (by dsimp only; omega)
    have e3 : (⟨(64 * h + e : ℕ) / 64 % 4, by omega⟩ : Fin 4) = ⟨h % 4, by omega⟩ := Fin.ext (by dsimp only; omega)
    have e4 : (⟨(64 * h + e : ℕ) % 64, by omega⟩ : Fin 64) = e := Fin.ext (by dsimp only; omega)
    have e5 : (⟨(n * 128 + i : ℕ) % 128, by omega⟩ : Fin 128) = i := Fin.ext (by dsimp only; omega)
    have e6 : (⟨(h : ℕ) / 4 * 4 + (h : ℕ) % 4, by omega⟩ : Fin 16) = h := Fin.ext (by dsimp only; omega)
    simp only [e1, e2, e3, e4, e5, Cert.ReferenceIdeal.Attn.probs_at, Cert.ReferenceIdeal.Attn.top_at, e6]
  · rw [score_head, if_neg fun hn => near0 hn.1]
  · rw [Cert.KernelIdeal.Attn.headScore, if_pos rfl, hB, Cert.KernelIdeal.Attn.tables_at, if_pos rfl, zero_add, mul_comm]
  · intro j hj
    rw [Cert.KernelIdeal.Attn.headScore, if_neg hj, hB, Cert.KernelIdeal.Attn.tables_at, if_neg hj, score_head]
    by_cases hn : near i j ∧ (n = 0 → 128 ≤ (j : ℕ))
    · rw [if_pos hn, if_pos ⟨hn.1, fun h0 => hn.2 (hw.mp h0)⟩, log2e_mul_add, mul_comm (rb _) log2e,
        sum_mul_coe _ _ _ (by norm_num), log2e_mul_sum]
      refine congrArg (· + _) (Finset.sum_congr rfl fun x _ => ?_)
      rw [hQ, hK j _ hn.2]
      refine (congrArg₂ (· * ·) (Cert.KernelIdeal.Attn.u3_q q k v g b _ h x)
        (Cert.KernelIdeal.Attn.u3_key q k v g b _ h x (by have := Cert.KernelIdeal.Attn.kcol_lt h x; omega))).trans ?_
      ac_rfl
    · rw [if_neg hn, if_neg fun hm => hn ⟨hm.1, fun h0 => hm.2 (hw.mpr h0)⟩, EReal.add_bot, log2e_mul_bot]
  · exact if_pos rfl
  · intro j hj ht
    have hn : near i j ∧ (n = 0 → 128 ≤ (j : ℕ)) := by
      by_contra hc
      exact ht (by rw [score_head, if_neg hc])
    rw [if_neg hj, hW j _ hn.2, Cert.ReferenceIdeal.Attn.twoBlocks_at v b n _ j e hn.2]
    exact Cert.KernelIdeal.Attn.u3_val q k v g b _ h e (by have := Cert.KernelIdeal.Attn.kcol_lt h e; omega)
  · exact (hsk _).2
  · exact (hsk _).1
  · intro j
    rw [score_head]
    split_ifs with hn
    · obtain ⟨r, hr⟩ := sum_finite (fun x : Fin 64 => k (ix4 b ⟨n * 128 + j - 128, by omega⟩ ⟨h / 4, by omega⟩ x))
        (fun x => q (ix4 b ⟨n * 128 + i, by omega⟩ h x)) (fun _ => hk _) (fun _ => hq _)
      rw [hr, ← EReal.coe_mul]
      exact EReal.add_ne_top (EReal.coe_ne_top _) (hrb _).1
    · exact bot_ne_top

end Cert.Attn

end
-- ==== Proof.Store.lean ====
module

public import proofs.«01_k».proof.Proof.Tiles
public import proofs.«01_k».proof.Proof.Gen.KernelIdeal.Value
public import Idealize.ShloMosaic.Lib.Pipeline.ValueKit

/-! What a grid point stores, from the blocks it reads: each head's slice of the table is the table block at that
head. -/

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-- A head's table in the table block. -/
def headOf (x : Vec F S1x16x128x256 .f32) (h : Fin 16) : FVec F S1x1x128x256 .f32 :=
  fun y => x (ix4 0 h ⟨(y 2 : ℕ), (y 2).isLt⟩ ⟨(y 3 : ℕ), (y 3).isLt⟩)

theorem head_0 (x : Vec F S1x16x128x256 .f32) : View.ld x r0_2 = headOf x 0 := by
  funext y; exact congrArg x (by idx_ext)

theorem head_1 (x : Vec F S1x16x128x256 .f32) : View.ld x r0_3 = headOf x 1 := by
  funext y; exact congrArg x (by idx_ext)

theorem head_2 (x : Vec F S1x16x128x256 .f32) : View.ld x r0_4 = headOf x 2 := by
  funext y; exact congrArg x (by idx_ext)

theorem head_3 (x : Vec F S1x16x128x256 .f32) : View.ld x r0_5 = headOf x 3 := by
  funext y; exact congrArg x (by idx_ext)

theorem head_4 (x : Vec F S1x16x128x256 .f32) : View.ld x r0_6 = headOf x 4 := by
  funext y; exact congrArg x (by idx_ext)

theorem head_5 (x : Vec F S1x16x128x256 .f32) : View.ld x r0_7 = headOf x 5 := by
  funext y; exact congrArg x (by idx_ext)

theorem head_6 (x : Vec F S1x16x128x256 .f32) : View.ld x r0_8 = headOf x 6 := by
  funext y; exact congrArg x (by idx_ext)

theorem head_7 (x : Vec F S1x16x128x256 .f32) : View.ld x r0_9 = headOf x 7 := by
  funext y; exact congrArg x (by idx_ext)

theorem head_8 (x : Vec F S1x16x128x256 .f32) : View.ld x r0_10 = headOf x 8 := by
  funext y; exact congrArg x (by idx_ext)

theorem head_9 (x : Vec F S1x16x128x256 .f32) : View.ld x r0_11 = headOf x 9 := by
  funext y; exact congrArg x (by idx_ext)

theorem head_10 (x : Vec F S1x16x128x256 .f32) : View.ld x r0_12 = headOf x 10 := by
  funext y; exact congrArg x (by idx_ext)

theorem head_11 (x : Vec F S1x16x128x256 .f32) : View.ld x r0_13 = headOf x 11 := by
  funext y; exact congrArg x (by idx_ext)

theorem head_12 (x : Vec F S1x16x128x256 .f32) : View.ld x r0_14 = headOf x 12 := by
  funext y; exact congrArg x (by idx_ext)

theorem head_13 (x : Vec F S1x16x128x256 .f32) : View.ld x r0_15 = headOf x 13 := by
  funext y; exact congrArg x (by idx_ext)

theorem head_14 (x : Vec F S1x16x128x256 .f32) : View.ld x r0_16 = headOf x 14 := by
  funext y; exact congrArg x (by idx_ext)

theorem head_15 (x : Vec F S1x16x128x256 .f32) : View.ld x r0_17 = headOf x 15 := by
  funext y; exact congrArg x (by idx_ext)

theorem out_block (x0 : Vec F S1x128x1024 .bf16) (x1 x2 x3 x4 : Vec F S1x128x512 .bf16) (x5 : Vec F S1x16x128x256 .f32) :
    out0_6 x0 x1 x2 x3 x4 x5 = blockOut (shapeCast S128x1024 x0 shapeCasts_S1x128x1024_S128x1024) (rows x1 x2) (rows x3 x4)
      (headOf x5 0) (headOf x5 1) (headOf x5 2) (headOf x5 3) (headOf x5 4) (headOf x5 5) (headOf x5 6) (headOf x5 7)
      (headOf x5 8) (headOf x5 9) (headOf x5 10) (headOf x5 11) (headOf x5 12) (headOf x5 13) (headOf x5 14) (headOf x5 15) := by
  have e : ∀ x : Vec F S1x128x512 .bf16, View.ld x r0_1 = x := fun x => View.ld_unit_lit _ x (by decide)
  rw [out_eq, View.canon_cons_unit_lit _ _ _ (by decide), e, e, e, e, View.ld_unit_lit _ x0 (by decide),
    head_0, head_1, head_2, head_3, head_4, head_5, head_6, head_7, head_8, head_9, head_10, head_11, head_12, head_13, head_14, head_15]

end Cert.KernelIdeal.Attn

end
-- ==== Proof.Blocks.lean ====
module

public import proofs.«01_k».proof.Proof.Tiles
public import proofs.«01_k».proof.Proof.Gen.KernelIdeal.Value
public import Idealize.ShloMosaic.Lib.Pipeline.ValueKit

/-! Where each window's block lies in its array, at a grid point. -/

@[expose] public section

set_option maxRecDepth 16384

noncomputable section

namespace Cert.KernelIdeal.Attn

open Cert.KernelIdeal Cert.KernelIdeal.Gen Idealize.ShloMosaic Idealize.ShloMosaic.TcCoe Idealize.SL.Sem

/-- Which block each window is at. -/
theorem idx : ∀ t : Fin cfg0.N, win0_0.index t = ![t.val / 32, t.val % 32, 0]
    ∧ win0_1.index t = ![t.val / 32, t.val % 32 - 1, 6]
    ∧ win0_2.index t = ![t.val / 32, t.val % 32, 6]
    ∧ win0_3.index t = ![t.val / 32, t.val % 32 - 1, 7]
    ∧ win0_4.index t = ![t.val / 32, t.val % 32, 7]
    ∧ win0_5.index t = ![min (t.val % 32) 1, 0, 0, 0]
    ∧ win0_6.index t = ![t.val / 32, t.val % 32, 0] :=
  (by decide +kernel : ∀ t : Fin grid0.N, _)

theorem emb_q (t : Fin cfg0.N) (b : Fin 8) (n : Fin 32) (hb : t.val / 32 = b) (hn : t.val % 32 = n) (i : Fin 128) (l : Fin 1024) :
    (win0_0.blk t).view.emb (ix3 0 i l) = ix3 b ⟨n * 128 + i, by omega⟩ ⟨l, by omega⟩ := by
  blk_ext [idx t]

theorem emb_out (t : Fin cfg0.N) (b : Fin 8) (n : Fin 32) (hb : t.val / 32 = b) (hn : t.val % 32 = n) (i : Fin 128) (l : Fin 1024) :
    (win0_6.blk t).view.emb (ix3 0 i l) = ix3 b ⟨n * 128 + i, by omega⟩ l := by
  blk_ext [idx t]

theorem emb_kp (t : Fin cfg0.N) (b : Fin 8) (n : Fin 32) (hb : t.val / 32 = b) (hn : t.val % 32 = n) (h0 : n ≠ 0) (i : Fin 128) (l : Fin 512) :
    (win0_1.blk t).view.emb (ix3 0 i l) = ix3 b ⟨n * 128 + i - 128, by omega⟩ ⟨3072 + l, by omega⟩ := by
  have h1 : 0 < (n : ℕ) := Nat.pos_of_ne_zero fun h => h0 (Fin.ext h)
  blk_ext [idx t]

theorem emb_ko (t : Fin cfg0.N) (b : Fin 8) (n : Fin 32) (hb : t.val / 32 = b) (hn : t.val % 32 = n) (i : Fin 128) (l : Fin 512) :
    (win0_2.blk t).view.emb (ix3 0 i l) = ix3 b ⟨n * 128 + i, by omega⟩ ⟨3072 + l, by omega⟩ := by
  blk_ext [idx t]

theorem emb_vp (t : Fin cfg0.N) (b : Fin 8) (n : Fin 32) (hb : t.val / 32 = b) (hn : t.val % 32 = n) (h0 : n ≠ 0) (i : Fin 128) (l : Fin 512) :
    (win0_3.blk t).view.emb (ix3 0 i l) = ix3 b ⟨n * 128 + i - 128, by omega⟩ ⟨3584 + l, by omega⟩ := by
  have h1 : 0 < (n : ℕ) := Nat.pos_of_ne_zero fun h => h0 (Fin.ext h)
  blk_ext [idx t]

theorem emb_vo (t : Fin cfg0.N) (b : Fin 8) (n : Fin 32) (hb : t.val / 32 = b) (hn : t.val % 32 = n) (i : Fin 128) (l : Fin 512) :
    (win0_4.blk t).view.emb (ix3 0 i l) = ix3 b ⟨n * 128 + i, by omega⟩ ⟨3584 + l, by omega⟩ := by
  blk_ext [idx t]

theorem emb_t (t : Fin cfg0.N) (n : Fin 32) (w : Fin 2) (hn : t.val % 32 = n) (hw : (w : ℕ) = min (n : ℕ) 1)
    (h : Fin 16) (i : Fin 128) (j : Fin 256) :
    (win0_5.blk t).view.emb (ix4 0 h i j) = ix4 w h i j := by
  blk_ext [idx t]

section

variable {F : FTy → Type} [FloatOps F] (m : (ℓ : Loc nD τ sig) → Buf (Elt F) ℓ)

theorem iblk_q (c : Dev nD) (t : Fin cfg0.N) (y : S1x128x1024.Idx) (i : S8x4096x4096.Idx) (h : (win0_0.blk t).view.emb y = i) :
    iblk m c 0 t y = V m c main_v17 i := by
  subst h
  rfl

theorem iblk_kp (c : Dev nD) (t : Fin cfg0.N) (y : S1x128x512.Idx) (i : S8x4096x4096.Idx) (h : (win0_1.blk t).view.emb y = i) :
    iblk m c 1 t y = V m c main_v17 i := by
  subst h
  rfl

theorem iblk_ko (c : Dev nD) (t : Fin cfg0.N) (y : S1x128x512.Idx) (i : S8x4096x4096.Idx) (h : (win0_2.blk t).view.emb y = i) :
    iblk m c 2 t y = V m c main_v17 i := by
  subst h
  rfl

theorem iblk_vp (c : Dev nD) (t : Fin cfg0.N) (y : S1x128x512.Idx) (i : S8x4096x4096.Idx) (h : (win0_3.blk t).view.emb y = i) :
    iblk m c 3 t y = V m c main_v17 i := by
  subst h
  rfl

theorem iblk_vo (c : Dev nD) (t : Fin cfg0.N) (y : S1x128x512.Idx) (i : S8x4096x4096.Idx) (h : (win0_4.blk t).view.emb y = i) :
    iblk m c 4 t y = V m c main_v17 i := by
  subst h
  rfl

theorem iblk_t (c : Dev nD) (t : Fin cfg0.N) (y : S1x16x128x256.Idx) (i : S2x16x128x256.Idx) (h : (win0_5.blk t).view.emb y = i) :
    iblk m c 5 t y = V m c main_v89 i := by
  subst h
  rfl

end

end Cert.KernelIdeal.Attn

end
-- ==== Proof.Bridge.lean ====
module

public import proofs.«01_k».proof.Proof.Row
public import proofs.«01_k».proof.Proof.Store
public import proofs.«01_k».proof.Proof.Blocks
public import proofs.«01_k».proof.Proof.Gen.KernelIdeal.Value
public import Idealize.ShloMosaic.Lib.Pipeline.ValueKit

/-! The array after the run: every grid point writes its own block of 128 queries, and the block it writes is the
reference's rows. -/

@[expose] public section

set_option maxRecDepth 16384

noncomputable section

namespace Cert.KernelIdeal.Attn

open Cert.Attn
open Cert.KernelIdeal Cert.KernelIdeal.Gen Idealize.ShloMosaic Idealize.ShloMosaic.TcCoe Idealize.SL.Sem

/-- Row `j` of the two blocks of keys: the previous block's rows, then the point's own. -/
theorem rows_at (p o : FVec Ideal S1x128x512 .bf16) (j : Fin 256) (l : Fin 512) :
    rows p o (ix2 j l) = if h : (j : ℕ) < 128 then p (ix3 0 ⟨j, h⟩ l) else o (ix3 0 ⟨j - 128, by omega⟩ l) := by
  pointwise [rows]

/-- A STORED ELEMENT at the point of batch `b` and query block `n`, from what the point's blocks hold. -/
theorem stored_at (q : FVec Ideal S8x4096x16x64 .f32) (k v : FVec Ideal S8x4096x4x64 .f32) (g : FVec Ideal S8x4096x2048 .f32)
    (rb : FVec Ideal S32x16 .f32) (sk : FVec Ideal S16 .f32) (hq : Finite q) (hk : Finite k) (hrb : Finite rb) (hsk : Finite sk)
    (b : Fin 8) (n : Fin 32) (w : Fin 2) (hw : w = 0 ↔ n = 0)
    (x0 : FVec Ideal S1x128x1024 .bf16) (x1 x2 x3 x4 : FVec Ideal S1x128x512 .bf16) (x5 : FVec Ideal S1x16x128x256 .f32)
    (h0 : ∀ (i : Fin 128) (l : Fin 1024), x0 (ix3 0 i l) = u3 q k v g (ix3 b ⟨n * 128 + i, by omega⟩ ⟨l, by omega⟩))
    (h1 : n ≠ 0 → ∀ (i : Fin 128) (l : Fin 512), x1 (ix3 0 i l) = u3 q k v g (ix3 b ⟨n * 128 + i - 128, by omega⟩ ⟨3072 + l, by omega⟩))
    (h2 : ∀ (i : Fin 128) (l : Fin 512), x2 (ix3 0 i l) = u3 q k v g (ix3 b ⟨n * 128 + i, by omega⟩ ⟨3072 + l, by omega⟩))
    (h3 : n ≠ 0 → ∀ (i : Fin 128) (l : Fin 512), x3 (ix3 0 i l) = u3 q k v g (ix3 b ⟨n * 128 + i - 128, by omega⟩ ⟨3584 + l, by omega⟩))
    (h4 : ∀ (i : Fin 128) (l : Fin 512), x4 (ix3 0 i l) = u3 q k v g (ix3 b ⟨n * 128 + i, by omega⟩ ⟨3584 + l, by omega⟩))
    (h5 : ∀ (h : Fin 16) (i : Fin 128) (j : Fin 256), x5 (ix4 0 h i j) = tables rb sk (ix4 w h i j))
    (i : Fin 128) (l : Fin 1024) :
    blockOut (shapeCast S128x1024 x0 shapeCasts_S1x128x1024_S128x1024) (rows x1 x2) (rows x3 x4)
        (headOf x5 0) (headOf x5 1) (headOf x5 2) (headOf x5 3) (headOf x5 4) (headOf x5 5) (headOf x5 6) (headOf x5 7) (headOf x5 8) (headOf x5 9) (headOf x5 10) (headOf x5 11) (headOf x5 12) (headOf x5 13) (headOf x5 14) (headOf x5 15)
        (ix3 0 i l)
      = Cert.ReferenceIdeal.Attn.result q k v rb sk (ix3 b ⟨n * 128 + i, by omega⟩ l) := by
  have key : ∀ (p o : FVec Ideal S1x128x512 .bf16) (c : ℕ) (hc : c + 512 ≤ 4096),
      (n ≠ 0 → ∀ (i : Fin 128) (l : Fin 512), p (ix3 0 i l) = u3 q k v g (ix3 b ⟨n * 128 + i - 128, by omega⟩ ⟨c + l, by omega⟩)) →
      (∀ (i : Fin 128) (l : Fin 512), o (ix3 0 i l) = u3 q k v g (ix3 b ⟨n * 128 + i, by omega⟩ ⟨c + l, by omega⟩)) →
      ∀ (j : Fin 256) (l : Fin 512), (n = 0 → 128 ≤ (j : ℕ)) →
        rows p o (ix2 j l) = u3 q k v g (ix3 b ⟨n * 128 + j - 128, by omega⟩ ⟨c + l, by omega⟩) := by
    intro p o c hc hp ho j l hj
    rw [rows_at]
    split_ifs with hlt
    · exact hp (fun h => absurd (hj h) (by omega)) ⟨j, hlt⟩ l
    · rw [ho]
      exact congrArg (fun s => u3 q k v g (ix3 b s ⟨c + l, by omega⟩)) (Fin.ext (by dsimp only; omega))
  have hl : l = ⟨64 * (⟨l / 64, by omega⟩ : Fin 16) + (⟨l % 64, by omega⟩ : Fin 64), by dsimp only; omega⟩ := Fin.ext (by dsimp only; omega)
  rw [hl]
  refine (blockOut_at _ _ _ (headOf x5) i ⟨l / 64, by omega⟩ ⟨l % 64, by omega⟩).trans ?_
  refine row_eq q k v g rb sk hq hk hrb hsk b n w hw _ _ _ _ ?_ ?_ ?_ ?_ i ⟨l / 64, by omega⟩ ⟨l % 64, by omega⟩
  · intro i l
    rw [← h0]
    pointwise []
  · exact key x1 x2 3072 (by norm_num) h1 h2
  · exact key x3 x4 3584 (by norm_num) h3 h4
  · exact fun h i j => h5 h i j

variable (m : (ℓ : Loc nD τ sig) → Buf (Elt Ideal) ℓ)

/-- THE ARRAY AFTER THE RUN is the reference's attention over the kernel's own arguments. -/
theorem final (c : Dev nD) (hq : Finite (S := S8x4096x16x64) (m ((c : Thread nD τ).loc main_arg0)))
    (hk : Finite (S := S8x4096x4x64) (m ((c : Thread nD τ).loc main_arg1)))
    (hrb : Finite (S := S32x16) (m ((c : Thread nD τ).loc main_arg4))) (hsk : Finite (S := S16) (m ((c : Thread nD τ).loc main_arg5))) :
    (dats m 0 c).arrAt 6 (cfgs 0).N
      = Cert.ReferenceIdeal.Attn.result (F := Ideal) (m ((c : Thread nD τ).loc main_arg0)) (m ((c : Thread nD τ).loc main_arg1))
          (m ((c : Thread nD τ).loc main_arg2)) (m ((c : Thread nD τ).loc main_arg4)) (m ((c : Thread nD τ).loc main_arg5)) := by
  refine (dats m 0 c).arrAt_eq_of_covers 6 _ (by decide +kernel) fun t _ y => ?_
  blk_simp
  rw [after0_6, out_block]
  have ht : t.val < 256 := t.isLt
  obtain ⟨z, i, l, rfl⟩ : ∃ (z : Fin 1) (i : Fin 128) (l : Fin 1024), y = ix3 z i l := ⟨_, _, _, eq_ix3 y⟩
  obtain rfl : z = 0 := Subsingleton.elim _ _
  have hb : t.val / 32 = (⟨t.val / 32, by omega⟩ : Fin 8) := rfl
  have hn : t.val % 32 = (⟨t.val % 32, by omega⟩ : Fin 32) := rfl
  rw [emb_out t _ _ hb hn]
  refine stored_at _ _ _ (m ((c : Thread nD τ).loc main_arg3)) _ _ hq hk hrb hsk _ _ ⟨min (t.val % 32) 1, by omega⟩ ?_ _ _ _ _ _ _
    (fun i l => (iblk_q m c t _ _ (emb_q t _ _ hb hn i l)).trans (congrFun (V_u3 m c) _))
    (fun h0 i l => (iblk_kp m c t _ _ (emb_kp t _ _ hb hn h0 i l)).trans (congrFun (V_u3 m c) _))
    (fun i l => (iblk_ko m c t _ _ (emb_ko t _ _ hb hn i l)).trans (congrFun (V_u3 m c) _))
    (fun h0 i l => (iblk_vp m c t _ _ (emb_vp t _ _ hb hn h0 i l)).trans (congrFun (V_u3 m c) _))
    (fun i l => (iblk_vo m c t _ _ (emb_vo t _ _ hb hn i l)).trans (congrFun (V_u3 m c) _))
    (fun h i j => (iblk_t m c t _ _ (emb_t t _ _ hn rfl h i j)).trans (congrFun (V_tables m c) _)) i l
  simp only [Fin.ext_iff]
  show min (t.val % 32) 1 = 0 ↔ t.val % 32 = 0
  omega

end Cert.KernelIdeal.Attn

end
-- ==== Proof.Pre.lean ====
module

public import proofs.«01_k».proof.Proof.Row
public import proofs.«01_k».proof.Defs

/-! The precondition: the scores' ingredients are below infinity in size, so neither infinity. -/

@[expose] public section

set_option maxRecDepth 16384

noncomputable section

namespace Cert.Attn

open Idealize.ShloMosaic

/-- The shapes the predicate names, broadcast from a scalar. -/
theorem preFacts : Cert.Pre_finite_scores.Facts where
  bcast_S_S8x4096x16x64 := by decide
  bcast_S_S8x4096x4x64 := by decide
  bcast_S_S32x16 := by decide
  bcast_S_S16 := by decide

theorem ofBits_inf : Ideal.ofBits .f32 0x7F800000#32 = (⊤ : EReal) := by
  simp [Ideal.ofBits, Ideal.ieee]

/-- A number below infinity in size is neither infinity. -/
theorem finite_of_lt {x : EReal} (h : Ideal.cmp .olt (max x (-x)) (⊤ : EReal) = 1#1) : x ≠ ⊤ ∧ x ≠ ⊥ := by
  constructor
  · rintro rfl
    simp [Ideal.cmp] at h
  · rintro rfl
    simp [Ideal.cmp] at h

theorem finite_of {S : Shape} (hb : (⟨0, ![]⟩ : Shape).BroadcastsInDim S (![] : Fin 0 → Fin S.rank)) (x : FVec Ideal S .f32)
    (h : cmpf .olt (Host.absf x) (broadcastInDim S ![] hb (constant (F := Ideal) ⟨0, ![]⟩ .f32 0x7F800000#32)) = fun _ => 1#1) :
    Finite x := fun y => by
  refine finite_of_lt ?_
  rw [← ofBits_inf]
  exact congrFun h y

end Cert.Attn

end
-- ==== Proof.Ffn.lean ====
module

public import Idealize.ShloMosaic.Lib.Pipeline.ValueKit

/-! One row of a SwiGLU feed-forward network over the extended reals. -/

@[expose] public section

set_option maxRecDepth 16384

noncomputable section

namespace Cert.Ffn

open Idealize.ShloMosaic

theorem ofBits_one : Ideal.ofBits .f32 0x3F800000#32 = (1 : EReal) := by
  simp [Ideal.ofBits, Ideal.ieee]
  exact_mod_cast (by norm_num : (8388608 : ℝ) * ((2 ^ 23 : ℝ))⁻¹ = 1)

theorem ofBits_zero : Ideal.ofBits .f32 0x00000000#32 = (0 : EReal) := by
  simp [Ideal.ofBits, Ideal.ieee]

/-- A hidden unit: the gate product through SiLU, times the up product. -/
def hid (x g u : Fin 1024 → EReal) : EReal :=
  (∑ d : Fin 1024, x d * g d) * Ideal.logistic (∑ d : Fin 1024, x d * g d) * ∑ d : Fin 1024, x d * u d

/-- A row's output: every hidden unit times its row of the down projection. -/
def row (x : Fin 1024 → EReal) (w1 w3 : Fin 1024 → Fin 3584 → EReal) (w2 : Fin 3584 → Fin 1024 → EReal) (j : Fin 1024) : EReal :=
  ∑ k : Fin 3584, hid x (fun d => w1 d k) (fun d => w3 d k) * w2 k j

/-- A row divided by the root of its mean square, times the weights. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- Hidden unit `k`'s share of column `j`, nothing past the last unit. -/
def summand (x : Fin 1024 → EReal) (w1 w3 : Fin 1024 → Fin 3584 → EReal) (w2 : Fin 3584 → Fin 1024 → EReal) (j : Fin 1024) (k : ℕ) : EReal :=
  if h : k < 3584 then hid x (fun d => w1 d ⟨k, h⟩) (fun d => w3 d ⟨k, h⟩) * w2 ⟨k, h⟩ j else 0

/-- Sums over consecutive runs of `n` are one sum. -/
theorem sum_runs (f : ℕ → EReal) (n : ℕ) : ∀ J : ℕ, ∑ s ∈ Finset.range J, ∑ k : Fin n, f (n * s + k.val) = ∑ k ∈ Finset.range (n * J), f k
  | 0 => by simp
  | J + 1 => by
    rw [Finset.sum_range_succ, sum_runs f n J, Nat.mul_succ, Finset.sum_range_add, Fin.sum_univ_eq_sum_range (fun k => f (n * J + k))]

/-- A row is seven runs of 512 hidden units. -/
theorem row_runs (x : Fin 1024 → EReal) (w1 w3 : Fin 1024 → Fin 3584 → EReal) (w2 : Fin 3584 → Fin 1024 → EReal) (j : Fin 1024) :
    ∑ s ∈ Finset.range 7, ∑ k : Fin 512, summand x w1 w3 w2 j (512 * s + k.val) = row x w1 w3 w2 j := by
  rw [sum_runs (summand x w1 w3 w2 j) 512 7, ← Fin.sum_univ_eq_sum_range]
  refine Finset.sum_congr rfl fun k _ => ?_
  rw [summand, dif_pos (show k.val < 3584 from k.isLt)]

/-- One run from its blocks. -/
theorem run_of (x : Fin 1024 → EReal) (w1 w3 : Fin 1024 → Fin 3584 → EReal) (w2 : Fin 3584 → Fin 1024 → EReal) (j : Fin 1024) (s : Fin 7)
    (y : Fin 1024 → EReal) (b1 b3 : Fin 1024 → Fin 512 → EReal) (b2 : Fin 512 → EReal) (hy : ∀ d, y d = x d)
    (h1 : ∀ d k, b1 d k = w1 d ⟨512 * s.val + k.val, by omega⟩) (h3 : ∀ d k, b3 d k = w3 d ⟨512 * s.val + k.val, by omega⟩)
    (h2 : ∀ k, b2 k = w2 ⟨512 * s.val + k.val, by omega⟩ j) :
    ∑ k : Fin 512, hid y (fun d => b1 d k) (fun d => b3 d k) * b2 k = ∑ k : Fin 512, summand x w1 w3 w2 j (512 * s.val + k.val) := by
  refine Finset.sum_congr rfl fun k _ => ?_
  rw [summand, dif_pos (show 512 * s.val + k.val < 3584 by omega), h2]
  simp only [h1, h3]
  rw [funext hy]

end Cert.Ffn

end
-- ==== Proof.MoePay.lean ====
module

public import proofs.«01_k».proof.Proof.Ffn
public import proofs.«01_k».proof.Proof.Gen.Kernel2Ideal.Skeleton
public import Idealize.ShloMosaic.Lib.WordCmp

/-! What the experts' kernel stores at a point, read at an index over the extended reals. -/

@[expose] public section

set_option maxRecDepth 16384

noncomputable section

namespace Cert.Kernel2Ideal.Moe

open Cert.Ffn
open Cert.Kernel2Ideal Cert.Kernel2Ideal.Gen Idealize.ShloMosaic Idealize.ShloMosaic.TcCoe Idealize.SL.Sem

/-- One step's accumulator: what it held, and the step's hidden units times their rows of the down projection. -/
theorem step_at (xb : Vec Ideal S1024x1024 .bf16) (w1 w3 : Vec Ideal S1x1024x512 .f32) (acc : Vec Ideal S1024x1024 .f32)
    (w2 : Vec Ideal S1x512x1024 .f32) (i j : Fin 1024) :
    (k0_pay4 (F := Ideal) xb w1 w3 acc w2 (ix2 i j) : EReal)
      = acc (ix2 i j) + ∑ k : Fin 512, hid (fun d => xb (ix2 i d)) (fun d => w1 (ix3 0 d k)) (fun d => w3 (ix3 0 d k)) * w2 (ix3 0 k j) := by
  pointwise [k0_pay4, hid]

theorem zero_at (i j : Fin 1024) : (k0_pay3 (F := Ideal) (ix2 i j) : EReal) = 0 := by
  pointwise [k0_pay3]

/-- A step's contribution. -/
def part (xb : Vec Ideal S1024x1024 .bf16) (w1 w3 : Vec Ideal S1x1024x512 .f32) (w2 : Vec Ideal S1x512x1024 .f32) (i j : Fin 1024) : EReal :=
  ∑ k : Fin 512, hid (fun d => xb (ix2 i d)) (fun d => w1 (ix3 0 d k)) (fun d => w3 (ix3 0 d k)) * w2 (ix3 0 k j)

/-- The stored tile: the accumulator's rows cut in eight, on an active tile. -/
theorem out_at (g : grid0.Coords) (v0 : BitVec 32) (acc : Vec Ideal S1024x1024 .f32) (i : Fin 1024) (c : Fin 8) (l : Fin 128) :
    (k0_pay5 (F := Ideal) g v0 acc (ix2 ⟨8 * i.val + c.val, by omega⟩ l) : EReal)
      = if IntOp.cmpi .slt (BitVec.ofNat 32 (g 0).val) v0 = 1#1 then acc (ix2 i ⟨128 * c.val + l.val, by omega⟩) else 0 := by
  pointwise [k0_pay5]
  have e : (⟨(8 * i.val + c.val) % 8 * 128 + l.val, by omega⟩ : Fin 1024) = ⟨128 * c.val + l.val, by omega⟩ :=
    Fin.ext (by show (8 * i.val + c.val) % 8 * 128 + l.val = 128 * c.val + l.val; omega)
  rw [e]
  rfl

end Cert.Kernel2Ideal.Moe

end
-- ==== Proof.MoeTable.lean ====
module

public import proofs.«01_k».proof.Proof.Gen.Kernel2Ideal.Frame.Runs
public import Idealize.ShloMosaic.Lib.Pipeline.ValueKit

/-! The experts' tables: which block each grid point reads when every tile's expert is one of the eight and the
number of active tiles is between one and all. -/

@[expose] public section

set_option maxRecDepth 16384

noncomputable section

namespace Cert.Kernel2Ideal.Moe

open Cert.Kernel2Ideal Cert.Kernel2Ideal.Gen Idealize.ShloMosaic Idealize.ShloMosaic.TcCoe Idealize.SL.Sem

variable {F : FTy → Type} [FloatOps F]

/-- The tables' words: each tile's expert among the sixteen, and the number of active tiles. -/
structure Tab (pf : pre0.Contents (Elt F)) (te : Fin 72 → Fin 8) (na : Fin 73) : Prop where
  expert : ∀ i : Fin 72, (pf 0 : S72.Idx → BitVec 32) (ix1 i) = BitVec.ofNat 32 (8 + (te i).val)
  count : (pf 1 : S1.Idx → BitVec 32) (ix1 0) = BitVec.ofNat 32 na.val
  pos : 1 ≤ na.val

theorem lt_word : ∀ (i : Fin 72) (n : Fin 73), Scalar.cmpi .slt (BitVec.ofNat 32 i.val) (BitVec.ofNat 32 n.val) = BitVec.ofBool (decide (i.val < n.val)) := by
  decide +kernel

theorem min_word : ∀ (i : Fin 72) (n : Fin 73), 1 ≤ n.val →
    (Scalar.minsi (BitVec.ofNat 32 i.val) (Scalar.subi (BitVec.ofNat 32 n.val) 1#32)).toNat = min i.val (n.val - 1) := by
  decide +kernel

theorem off_word : ∀ i : Fin 72, (Scalar.indexCast (BitVec.ofNat 32 i.val) : BitVec 32).toNat = i.val := by decide +kernel

theorem expert_word : ∀ e : Fin 8, (BitVec.ofNat 32 (8 + e.val)).toNat = 8 + e.val := by decide +kernel

theorem col_word : ∀ (j : Fin 7) (p : Bool), (Scalar.select (BitVec.ofBool p) (BitVec.ofNat 32 j.val) 6#32).toNat = if p then j.val else 6 := by
  decide +kernel

variable {pf : pre0.Contents (Elt F)} {te : Fin 72 → Fin 8} {na : Fin 73}

theorem expert_read (h : Tab pf te na) (i : grid0.Coords) (hb : ∀ a, (![(Scalar.indexCast (BitVec.ofNat 32 (i 0).val) : BitVec 32).toNat] : Fin 1 → Nat) a + S1.size a ≤ S72.size a)
    (hn : S1.numel = 1) :
    pf.at 0 (Rect.unit (s := S72) ![(Scalar.indexCast (BitVec.ofNat 32 (i 0).val) : BitVec 32).toNat] S1.size hb) hn
      = BitVec.ofNat 32 (8 + (te (i 0)).val) := by
  rw [← h.expert (i 0)]
  refine congrArg (pf 0 : S72.Idx → BitVec 32) ?_
  refine funext fun (a : Fin 1) => ?_
  match a with
  | 0 => exact Fin.ext ((Nat.add_zero _).trans (off_word (i 0)))

theorem count_read (h : Tab pf te na) (hb : ∀ a, (![0] : Fin 1 → Nat) a + S1.size a ≤ S1.size a) (hn : S1.numel = 1) :
    pf.at 1 (Rect.unit (s := S1) ![0] S1.size hb) hn = BitVec.ofNat 32 na.val := by
  rw [← h.count]
  refine congrArg (pf 1 : S1.Idx → BitVec 32) ?_
  refine funext fun (a : Fin 1) => ?_
  match a with
  | 0 => rfl

/-- The token rows' block. -/
theorem block0 (h : Tab pf te na) (i : grid0.Coords) :
    cc0_transform_0 inb_S1_S1_0 numel1_S1 pf i = ![min (i 0).val (na.val - 1), 0] := by
  refine (congrArg (fun b : BitVec 32 => (![(Scalar.minsi (BitVec.ofNat 32 (i 0).val) (Scalar.subi b 1#32)).toNat, 0] : Fin 2 → Nat))
    (count_read h inb_S1_S1_0 numel1_S1)).trans ?_
  dsimp only
  rw [min_word (i 0) na h.pos]

/-- The input projections' blocks. -/
theorem block1 (h : Tab pf te na) (i : grid0.Coords) :
    cc0_transform_1 k0_off1_inb numel1_S1 inb_S1_S1_0 pf i = ![8 + (te (i 0)).val, 0, if (i 0).val < na.val then (i 1).val else 6] := by
  refine (congrArg₂ (fun a b : BitVec 32 => (![a.toNat, 0, (Scalar.select (Scalar.cmpi .slt (BitVec.ofNat 32 (i 0).val) b) (BitVec.ofNat 32 (i 1).val) 6#32).toNat] : Fin 3 → Nat))
    (expert_read h i (k0_off1_inb i) numel1_S1) (count_read h inb_S1_S1_0 numel1_S1)).trans ?_
  dsimp only
  rw [lt_word (i 0) na, col_word (i 1), expert_word]
  simp only [decide_eq_true_eq]

theorem block2 (h : Tab pf te na) (i : grid0.Coords) :
    cc0_transform_2 k0_off1_inb numel1_S1 inb_S1_S1_0 pf i = ![8 + (te (i 0)).val, 0, if (i 0).val < na.val then (i 1).val else 6] := by
  refine (congrArg₂ (fun a b : BitVec 32 => (![a.toNat, 0, (Scalar.select (Scalar.cmpi .slt (BitVec.ofNat 32 (i 0).val) b) (BitVec.ofNat 32 (i 1).val) 6#32).toNat] : Fin 3 → Nat))
    (expert_read h i (k0_off1_inb i) numel1_S1) (count_read h inb_S1_S1_0 numel1_S1)).trans ?_
  dsimp only
  rw [lt_word (i 0) na, col_word (i 1), expert_word]
  simp only [decide_eq_true_eq]

/-- The down projection's block. -/
theorem block3 (h : Tab pf te na) (i : grid0.Coords) :
    cc0_transform_3 k0_off1_inb numel1_S1 inb_S1_S1_0 pf i = ![8 + (te (i 0)).val, if (i 0).val < na.val then (i 1).val else 6, 0] := by
  refine (congrArg₂ (fun a b : BitVec 32 => (![a.toNat, (Scalar.select (Scalar.cmpi .slt (BitVec.ofNat 32 (i 0).val) b) (BitVec.ofNat 32 (i 1).val) 6#32).toNat, 0] : Fin 3 → Nat))
    (expert_read h i (k0_off1_inb i) numel1_S1) (count_read h inb_S1_S1_0 numel1_S1)).trans ?_
  dsimp only
  rw [lt_word (i 0) na, col_word (i 1), expert_word]
  simp only [decide_eq_true_eq]

/-- Every block lies in its array. -/
theorem ok_of_tab (h : Tab pf te na) : ok0 pf := by
  have col : ∀ i : grid0.Coords, (if (i 0).val < na.val then (i 1).val else 6) < 7 := fun i => by
    split_ifs
    · exact (i 1).isLt
    · decide
  have ex : ∀ i : grid0.Coords, (te (i 0)).val < 8 := fun i => (te (i 0)).isLt
  have tile : ∀ i : grid0.Coords, (i 0).val < 72 := fun i => (i 0).isLt
  refine ⟨fun i => ⟨?_, .inl rfl⟩, fun i => ⟨?_, .inl rfl⟩, fun i => ⟨?_, .inl rfl⟩, fun i => ⟨?_, .inl rfl⟩⟩
  · rw [block0 h i]
    have := tile i
    intro a
    match a with
    | 0 => show (min (i 0).val (na.val - 1) + 1) * 8192 ≤ 589824; omega
    | 1 => show (0 + 1) * 128 ≤ 128; omega
  · rw [block1 h i]
    have := col i
    have := ex i
    intro a
    match a with
    | 0 => show (8 + (te (i 0)).val + 1) * 1 ≤ 16; omega
    | 1 => show (0 + 1) * 1024 ≤ 1024; omega
    | 2 => show ((if (i 0).val < na.val then (i 1).val else 6) + 1) * 512 ≤ 3584; omega
  · rw [block2 h i]
    have := col i
    have := ex i
    intro a
    match a with
    | 0 => show (8 + (te (i 0)).val + 1) * 1 ≤ 16; omega
    | 1 => show (0 + 1) * 1024 ≤ 1024; omega
    | 2 => show ((if (i 0).val < na.val then (i 1).val else 6) + 1) * 512 ≤ 3584; omega
  · rw [block3 h i]
    have := col i
    have := ex i
    intro a
    match a with
    | 0 => show (8 + (te (i 0)).val + 1) * 1 ≤ 16; omega
    | 1 => show ((if (i 0).val < na.val then (i 1).val else 6) + 1) * 512 ≤ 3584; omega
    | 2 => show (0 + 1) * 1024 ≤ 1024; omega

/-- The count as the body reads it. -/
theorem word_read (h : Tab pf te na) :
    tbM0_1.view.readAt (Elt F) (Rect.unit (s := S1) ![0] S1.size inb_S1_S1_0).toLoadRect (pf 1) (Shape.Idx.first (numel1_S1.symm ▸ Nat.one_pos))
      = BitVec.ofNat 32 na.val := by
  rw [← h.count]
  refine congrArg (pf 1 : S1.Idx → BitVec 32) ?_
  refine funext fun (a : Fin 1) => ?_
  match a with
  | 0 => rfl

/-- The condition of an active tile. -/
theorem active_iff (i : grid0.Coords) (n : Fin 73) : cond0_1 i (BitVec.ofNat 32 n.val) ↔ (i 0).val < n.val := by
  have e : ∀ (p : Bool), (Scalar.cmpi .ne (Scalar.extui (BitVec.ofBool p) : BitVec 32) 0#32 = 1#1) ↔ p = true := by decide +kernel
  unfold cond0_1
  rw [lt_word (i 0) n]
  refine (e _).trans ?_
  rw [decide_eq_true_eq]

theorem zero_word : ∀ j : Fin 7, Scalar.cmpi .eq (BitVec.ofNat 32 j.val) 0#32 = BitVec.ofBool (decide (j.val = 0)) := by
  decide +kernel

theorem both_word : ∀ (p : BitVec 1) (b : Bool), (Scalar.cmpi .ne (Scalar.extui (Scalar.andi p (BitVec.ofBool b)) : BitVec 32) 0#32 = 1#1)
    ↔ (Scalar.cmpi .ne (Scalar.extui p : BitVec 32) 0#32 = 1#1) ∧ b = true := by
  decide +kernel

/-- The condition of an active tile's first point. -/
theorem first_iff (i : grid0.Coords) (v : BitVec 32) : cond0_0 i v ↔ cond0_1 i v ∧ (i 1).val = 0 := by
  unfold cond0_0 cond0_1
  rw [zero_word (i 1)]
  refine (both_word _ _).trans ?_
  rw [decide_eq_true_eq]

variable (m : (ℓ : Loc nD τ sig) → Buf (Elt F) ℓ)

theorem begins (h : Tab (tbl m) te na) (t : Fin grid0.N) (ht : t.val % 504 = 0) : cond0_0 (grid0.coords t) (BitVec.ofNat 32 na.val) := by
  have e : ∀ t : Fin grid0.N, t.val % 504 = 0 → (grid0.coords t 0).val = 0 ∧ (grid0.coords t 1).val = 0 := by decide +kernel
  have a := e t ht
  have := h.pos
  refine (first_iff _ _).mpr ⟨(active_iff _ _).mpr ?_, a.2⟩
  omega

/-- The first grid point is the first of an active tile. -/
theorem hyps_of_tab (h : Tab (tbl m) te na) (hO : Ok m) : Hyps m hO := by
  refine Hyps.of (fun c t hc _ _ ht => ?_) fun c t hc _ _ ht => ?_
  all_goals
    rw [word_read h] at hc
    exact hc (begins m h t ht)

end Cert.Kernel2Ideal.Moe

end
-- ==== Proof.MoePre.lean ====
module

public import proofs.«01_k».proof.Proof.MoeTable
public import proofs.«01_k».proof.Defs

/-! The precondition: every tile's expert is one of the eight, and between one and all tiles are active. -/

@[expose] public section

set_option maxRecDepth 16384

noncomputable section

namespace Cert.Kernel2Ideal.Moe

open Cert.Kernel2Ideal Cert.Kernel2Ideal.Gen Idealize.ShloMosaic Idealize.ShloMosaic.TcCoe Idealize.SL.Sem

/-- A word between two bounds is one of the numbers between them. -/
theorem word_lt {w : BitVec 32} {n : ℕ} (hn : n < 2 ^ 31) (a : BitVec 32) (ha : a.toNat ≤ n) (h0 : IntOp.cmpi .sge w a = 1#1)
    (h1 : w.toInt ≤ n) : a.toNat ≤ w.toNat ∧ w.toNat ≤ n := by
  have h0' : (a.sle w) = true := by
    cases e : a.sle w with
    | true => rfl
    | false => simp [IntOp.cmpi, e] at h0
  rw [BitVec.sle_iff_toInt_le, BitVec.toInt_eq_toNat_cond, BitVec.toInt_eq_toNat_cond] at h0'
  rw [BitVec.toInt_eq_toNat_cond] at h1
  have := w.isLt
  split_ifs at h0' h1 <;> omega

theorem le_of_sle {w a : BitVec 32} (h : IntOp.cmpi .sle w a = 1#1) : w.toInt ≤ a.toInt := by
  have h' : (w.sle a) = true := by
    cases e : w.sle a with
    | true => rfl
    | false => simp [IntOp.cmpi, e] at h
  exact BitVec.sle_iff_toInt_le.mp h'

theorem lt_of_slt {w a : BitVec 32} (h : IntOp.cmpi .slt w a = 1#1) : w.toInt < a.toInt := by
  have h' : (w.slt a) = true := by
    cases e : w.slt a with
    | true => rfl
    | false => simp [IntOp.cmpi, e] at h
  exact BitVec.slt_iff_toInt_lt.mp h'

theorem expert_of {w : BitVec 32} (h0 : IntOp.cmpi .sge w 0#32 = 1#1) (h1 : IntOp.cmpi .slt w 8#32 = 1#1) :
    ∃ e : Fin 8, w = BitVec.ofNat 32 e.val := by
  have h := word_lt (n := 7) (by decide) 0#32 (by decide) h0 (by
    have := lt_of_slt h1
    have e : (8#32 : BitVec 32).toInt = 8 := by decide
    omega)
  exact ⟨⟨w.toNat, by omega⟩, (BitVec.ofNat_toNat 32 w ▸ (BitVec.setWidth_eq w).symm)⟩

theorem count_of {w : BitVec 32} (h0 : IntOp.cmpi .sge w 1#32 = 1#1) (h1 : IntOp.cmpi .sle w 72#32 = 1#1) :
    ∃ n : Fin 73, 1 ≤ n.val ∧ w = BitVec.ofNat 32 n.val := by
  have h := word_lt (n := 72) (by decide) 1#32 (by decide) h0 (by
    have := le_of_sle h1
    have e : (72#32 : BitVec 32).toInt = 72 := by decide
    omega)
  have e : (1#32 : BitVec 32).toNat = 1 := by decide
  exact ⟨⟨w.toNat, by omega⟩, by show 1 ≤ w.toNat; omega, (BitVec.ofNat_toNat 32 w ▸ (BitVec.setWidth_eq w).symm)⟩

/-- The offset of the layer's experts. -/
theorem layer_word : ∀ e : Fin 8, IntOp.addi (BitVec.ofNat 32 e.val) 8#32 = BitVec.ofNat 32 (8 + e.val) := by decide +kernel

section Tables

variable {F : FTy → Type} [FloatOps F]
variable (m : (ℓ : Loc nD τ sig) → Buf (Elt F) ℓ)

/-- The table of experts as the region finds it. -/
theorem V_te (c : Dev nD) : V m c main_v1 = addi (m ((c : Thread nD τ).loc main_arg1)) (broadcastInDim S72 ![] bcast_S_S72 (constantI S_ 32 8#32)) := by
  show StableHlo.after _ _ _ = _
  simp only [hostOps0]
  after_results_simp

theorem V_w1 (c : Dev nD) : V m c main_v2 = shapeCast S16x1024x3584 (m ((c : Thread nD τ).loc main_arg3)) shapeCasts_S2x8x1024x3584_S16x1024x3584 := by
  show StableHlo.after _ _ _ = _
  simp only [hostOps0]
  after_results_simp
  rfl

theorem V_w3 (c : Dev nD) : V m c main_v3 = shapeCast S16x1024x3584 (m ((c : Thread nD τ).loc main_arg4)) shapeCasts_S2x8x1024x3584_S16x1024x3584 := by
  show StableHlo.after _ _ _ = _
  simp only [hostOps0]
  after_results_simp
  rfl

theorem V_w2 (c : Dev nD) : V m c main_v4 = shapeCast S16x3584x1024 (m ((c : Thread nD τ).loc main_arg5)) shapeCasts_S2x8x3584x1024_S16x3584x1024 := by
  show StableHlo.after _ _ _ = _
  simp only [hostOps0]
  after_results_simp
  rfl

/-- The words of the two tables, as the arguments give them. -/
structure Words (t : IVec S72 32) (n : IVec S1 32) (te : Fin 72 → Fin 8) (na : Fin 73) : Prop where
  expert : ∀ i : Fin 72, t (ix1 i) = BitVec.ofNat 32 (te i).val
  count : n (ix1 0) = BitVec.ofNat 32 na.val
  pos : 1 ≤ na.val

theorem words_of (t : IVec S72 32) (n : IVec S1 32) (h0 : ∀ y, IntOp.cmpi .sge (t y) 0#32 = 1#1) (h1 : ∀ y, IntOp.cmpi .slt (t y) 8#32 = 1#1)
    (h2 : ∀ y, IntOp.cmpi .sge (n y) 1#32 = 1#1) (h3 : ∀ y, IntOp.cmpi .sle (n y) 72#32 = 1#1) : ∃ te na, Words t n te na := by
  choose te hte using fun i : Fin 72 => expert_of (h0 (ix1 i)) (h1 (ix1 i))
  obtain ⟨na, hp, hna⟩ := count_of (h2 (ix1 0)) (h3 (ix1 0))
  exact ⟨te, na, hte, hna, hp⟩

theorem tab_of_words {te : Fin 72 → Fin 8} {na : Fin 73}
    (h : Words (m (((0 : Dev nD) : Thread nD τ).loc main_arg1)) (m (((0 : Dev nD) : Thread nD τ).loc main_arg2)) te na) : Tab (tbl m) te na where
  expert i := by
    refine (congrFun (V_te m 0) (ix1 i)).trans ?_
    exact (congrArg (fun w => IntOp.addi w 8#32) (h.expert i)).trans (layer_word (te i))
  count := (congrFun (V_main_arg2 m 0) (ix1 0)).trans h.count
  pos := h.pos

end Tables

theorem preFacts : Cert.Pre_tables_in_range.Facts where
  bcast_S_S72 := by decide
  bcast_S_S1 := by decide

attribute [local instance] preFacts in
theorem words_of_pre (m : (ℓ : Loc nD τ sig) → Buf (Elt Ideal) ℓ) (h : Cert.Pre_Kernel2Ideal m) :
    ∃ te na, Words (m (((0 : Dev nD) : Thread nD τ).loc main_arg1)) (m (((0 : Dev nD) : Thread nD τ).loc main_arg2)) te na := by
  obtain ⟨a, b, c, d⟩ := h 0
  exact words_of _ _ (fun y => congrFun a y) (fun y => congrFun b y) (fun y => congrFun c y) (fun y => congrFun d y)

attribute [local instance] preFacts in
theorem ok_of_pre (m : (ℓ : Loc nD τ sig) → Buf (Elt Ideal) ℓ) (h : Cert.Pre_Kernel2Ideal m) : Ok m := by
  obtain ⟨te, na, w⟩ := words_of_pre m h
  exact ok_of_tab (tab_of_words m w)

attribute [local instance] preFacts in
theorem hyps_of_pre (m : (ℓ : Loc nD τ sig) → Buf (Elt Ideal) ℓ) (h : Cert.Pre_Kernel2Ideal m) (hO : Ok m) : Hyps m hO := by
  obtain ⟨te, na, w⟩ := words_of_pre m h
  exact hyps_of_tab m (tab_of_words m w) hO

end Cert.Kernel2Ideal.Moe

end
-- ==== Proof.MoeRun.lean ====
/- The run of the grouped feed-forward kernel, point by point: what the output block and the two scratch buffers hold after
   each point of the grid, the body at a generic point, and the launch, over any float values. -/
module

public import proofs.«01_k».proof.Proof.Gen.Kernel2Ideal.Frame.RunH
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S8192x128 .f32 :=
  VO0_4.read (Elt F) (VO0_4.writes (Elt F) VO0_4.junk (kernelRun0_A c i arg4 harg4 arg5 harg5 arg6 harg6 arg7 harg7 arg8 harg8 arg9 harg9 arg10 harg10 hc2 x0 x1 x2 x3 xt0 xt1 hc0 hc1).1)

/-- Case A's pieces for scratch `arg9`, which the kernel carries between points, cover it: 8 pieces of `S1024x128` tiling it (Lib/Ring.lean `Piece.tiledL`). -/
theorem scover0_A_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_A c i arg4 harg4 arg5 harg5 arg6 harg6 arg7 harg7 arg8 harg8 arg9 harg9 arg10 harg10 hc2 x0 x1 x2 x3 xt0 xt1 hc0 hc1).2.1, y ∈ pc.1.set :=
  View.cover_of_tiledL (kernelRun0_A c i arg4 harg4 arg5 harg5 arg6 harg6 arg7 harg7 arg8 harg8 arg9 harg9 arg10 harg10 hc2 x0 x1 x2 x3 xt0 xt1 hc0 hc1).2.1 S1024x128.size (by sl_kernel_rfl) y

/-- What case A leaves in scratch `arg9`: its pieces read back over junk. -/
def sout0_A_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x1024 .bf16 :=
  VS0_0.read (Elt F) (VS0_0.writes (Elt F) VS0_0.junk (kernelRun0_A c i arg4 harg4 arg5 harg5 arg6 harg6 arg7 harg7 arg8 harg8 arg9 harg9 arg10 harg10 hc2 x0 x1 x2 x3 xt0 xt1 hc0 hc1).2.1)

/-- Case A's pieces for scratch `arg10`, which the kernel carries between points, cover it: 2 pieces of `S1024x1024` tiling it (Lib/Ring.lean `Piece.tiledL`). -/
theorem scover0_A_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_A c i arg4 harg4 arg5 harg5 arg6 harg6 arg7 harg7 arg8 harg8 arg9 harg9 arg10 harg10 hc2 x0 x1 x2 x3 xt0 xt1 hc0 hc1).2.2.1, y ∈ pc.1.set :=
  View.cover_of_tiledL (kernelRun0_A c i arg4 harg4 arg5 harg5 arg6 harg6 arg7 harg7 arg8 harg8 arg9 harg9 arg10 harg10 hc2 x0 x1 x2 x3 xt0 xt1 hc0 hc1).2.2.1 S1024x1024.size (by sl_kernel_rfl) y

/-- What case A leaves in scratch `arg10`: its pieces read back over junk. -/
def sout0_A_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_1.read (Elt F) (VS0_1.writes (Elt F) VS0_1.junk (kernelRun0_A c i arg4 harg4 arg5 harg5 arg6 harg6 arg7 harg7 arg8 harg8 arg9 harg9 arg10 harg10 hc2 x0 x1 x2 x3 xt0 xt1 hc0 hc1).2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S8192x128 .f32 :=
  VO0_4.read (Elt F) (VO0_4.writes (Elt F) VO0_4.junk (kernelRun0_B c i arg4 harg4 arg5 harg5 arg6 harg6 arg7 harg7 arg8 harg8 arg9 harg9 arg10 harg10 hc2 x0 x1 x2 x3 xt0 xt1 hc0 hc1).1)

/-- Case B's pieces for scratch `arg9`, which the kernel carries between points, cover it: 8 pieces of `S1024x128` tiling it (Lib/Ring.lean `Piece.tiledL`). -/
theorem scover0_B_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_B c i arg4 harg4 arg5 harg5 arg6 harg6 arg7 harg7 arg8 harg8 arg9 harg9 arg10 harg10 hc2 x0 x1 x2 x3 xt0 xt1 hc0 hc1).2.1, y ∈ pc.1.set :=
  View.cover_of_tiledL (kernelRun0_B c i arg4 harg4 arg5 harg5 arg6 harg6 arg7 harg7 arg8 harg8 arg9 harg9 arg10 harg10 hc2 x0 x1 x2 x3 xt0 xt1 hc0 hc1).2.1 S1024x128.size (by sl_kernel_rfl) y

/-- What case B leaves in scratch `arg9`: its pieces read back over junk. -/
def sout0_B_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .bf16 :=
  VS0_0.read (Elt F) (VS0_0.writes (Elt F) VS0_0.junk (kernelRun0_B c i arg4 harg4 arg5 harg5 arg6 harg6 arg7 harg7 arg8 harg8 arg9 harg9 arg10 harg10 hc2 x0 x1 x2 x3 xt0 xt1 hc0 hc1).2.1)

/-- Case B's pieces for scratch `arg10`, which the kernel carries between points, cover it: 1 piece of `S1024x1024` tiling it (Lib/Ring.lean `Piece.tiledL`). -/
theorem scover0_B_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_B c i arg4 harg4 arg5 harg5 arg6 harg6 arg7 harg7 arg8 harg8 arg9 harg9 arg10 harg10 hc2 x0 x1 x2 x3 xt0 xt1 hc0 hc1).2.2.1, y ∈ pc.1.set :=
  View.cover_of_tiledL (kernelRun0_B c i arg4 harg4 arg5 harg5 arg6 harg6 arg7 harg7 arg8 harg8 arg9 harg9 arg10 harg10 hc2 x0 x1 x2 x3 xt0 xt1 hc0 hc1).2.2.1 S1024x1024.size (by sl_kernel_rfl) y

/-- What case B leaves in scratch `arg10`: its pieces read back over junk. -/
def sout0_B_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_1.read (Elt F) (VS0_1.writes (Elt F) VS0_1.junk (kernelRun0_B c i arg4 harg4 arg5 harg5 arg6 harg6 arg7 harg7 arg8 harg8 arg9 harg9 arg10 harg10 hc2 x0 x1 x2 x3 xt0 xt1 hc0 hc1).2.2.1)

/-- Case C stores nothing into output 4 (the window is idle at its points and not written back there):
    no pieces — a placeholder (junk read back) that nothing consults, since at these points the window is neither
    written back nor read at the next point (Lib/Pipeline.lean "Idle points"). -/
def out0_C_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S8192x128 .f32 :=
  VO0_4.read (Elt F) (VO0_4.writes (Elt F) VO0_4.junk (kernelRun0_C c i arg4 harg4 arg5 harg5 arg6 harg6 arg7 harg7 arg8 harg8 arg9 harg9 arg10 harg10 hc2 x0 x1 x2 x3 xt0 xt1 xs0 xs1 hc0 hc1).1)

/-- Case C stores nothing into scratch `arg9`: it holds what the point before left. -/
def sout0_C_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x1024 .bf16 := xs0

/-- Case C's pieces for scratch `arg10`, which the kernel carries between points, cover it: 1 piece of `S1024x1024` tiling it (Lib/Ring.lean `Piece.tiledL`). -/
theorem scover0_C_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_C c i arg4 harg4 arg5 harg5 arg6 harg6 arg7 harg7 arg8 harg8 arg9 harg9 arg10 harg10 hc2 x0 x1 x2 x3 xt0 xt1 xs0 xs1 hc0 hc1).2.2.1, y ∈ pc.1.set :=
  View.cover_of_tiledL (kernelRun0_C c i arg4 harg4 arg5 harg5 arg6 harg6 arg7 harg7 arg8 harg8 arg9 harg9 arg10 harg10 hc2 x0 x1 x2 x3 xt0 xt1 xs0 xs1 hc0 hc1).2.2.1 S1024x1024.size (by sl_kernel_rfl) y

/-- What case C leaves in scratch `arg10`: its pieces read back over junk. -/
def sout0_C_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_1.read (Elt F) (VS0_1.writes (Elt F) VS0_1.junk (kernelRun0_C c i arg4 harg4 arg5 harg5 arg6 harg6 arg7 harg7 arg8 harg8 arg9 harg9 arg10 harg10 hc2 x0 x1 x2 x3 xt0 xt1 xs0 xs1 hc0 hc1).2.2.1)

/-- Case D stores nothing into output 4 (the window is idle at its points and not written back there):
    no pieces — a placeholder (junk read back) that nothing consults, since at these points the window is neither
    written back nor read at the next point (Lib/Pipeline.lean "Idle points"). -/
def out0_D_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S8192x128 .f32 :=
  VO0_4.read (Elt F) (VO0_4.writes (Elt F) VO0_4.junk (kernelRun0_D c i arg4 harg4 arg5 harg5 arg6 harg6 arg7 harg7 arg8 harg8 arg9 harg9 arg10 harg10 hc2 x0 x1 x2 x3 xt0 xt1 xs0 xs1 hc0 hc1).1)

/-- Case D stores nothing into scratch `arg9`: it holds what the point before left. -/
def sout0_D_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .bf16 := xs0

/-- Case D stores nothing into scratch `arg10`: it holds what the point before left. -/
def sout0_D_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : ¬cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 := xs1

/-- Case E's pieces for output 4 tile its block (1 store of `S8192x128`, checked by the kernel's evaluation: Lib/Ring.lean `Piece.tiledL`, linear in the pieces, through a loop's `@[irreducible]` trip theorem too), so they cover it. -/
theorem cover0_E_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S8192x128.Idx) :
    ∃ pc ∈ (kernelRun0_E c i arg4 harg4 arg5 harg5 arg6 harg6 arg7 harg7 arg8 harg8 arg9 harg9 arg10 harg10 hc2 x0 x1 x2 x3 xt0 xt1 hc0 hc1).1, y ∈ pc.1.set :=
  View.cover_of_tiledL (kernelRun0_E c i arg4 harg4 arg5 harg5 arg6 harg6 arg7 harg7 arg8 harg8 arg9 harg9 arg10 harg10 hc2 x0 x1 x2 x3 xt0 xt1 hc0 hc1).1 S8192x128.size (by sl_kernel_rfl) y

/-- What case E leaves in output 4's staging buffer: its pieces read back over junk. -/
def out0_E_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S8192x128 .f32 :=
  VO0_4.read (Elt F) (VO0_4.writes (Elt F) VO0_4.junk (kernelRun0_E c i arg4 harg4 arg5 harg5 arg6 harg6 arg7 harg7 arg8 harg8 arg9 harg9 arg10 harg10 hc2 x0 x1 x2 x3 xt0 xt1 hc0 hc1).1)

/-- Case E's pieces for scratch `arg9`, which the kernel carries between points, cover it: 8 pieces of `S1024x128` tiling it (Lib/Ring.lean `Piece.tiledL`). -/
theorem scover0_E_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_E c i arg4 harg4 arg5 harg5 arg6 harg6 arg7 harg7 arg8 harg8 arg9 harg9 arg10 harg10 hc2 x0 x1 x2 x3 xt0 xt1 hc0 hc1).2.1, y ∈ pc.1.set :=
  View.cover_of_tiledL (kernelRun0_E c i arg4 harg4 arg5 harg5 arg6 harg6 arg7 harg7 arg8 harg8 arg9 harg9 arg10 harg10 hc2 x0 x1 x2 x3 xt0 xt1 hc0 hc1).2.1 S1024x128.size (by sl_kernel_rfl) y

/-- What case E leaves in scratch `arg9`: its pieces read back over junk. -/
def sout0_E_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x1024 .bf16 :=
  VS0_0.read (Elt F) (VS0_0.writes (Elt F) VS0_0.junk (kernelRun0_E c i arg4 harg4 arg5 harg5 arg6 harg6 arg7 harg7 arg8 harg8 arg9 harg9 arg10 harg10 hc2 x0 x1 x2 x3 xt0 xt1 hc0 hc1).2.1)

/-- Case E's pieces for scratch `arg10`, which the kernel carries between points, cover it: 2 pieces of `S1024x1024` tiling it (Lib/Ring.lean `Piece.tiledL`). -/
theorem scover0_E_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_E c i arg4 harg4 arg5 harg5 arg6 harg6 arg7 harg7 arg8 harg8 arg9 harg9 arg10 harg10 hc2 x0 x1 x2 x3 xt0 xt1 hc0 hc1).2.2.1, y ∈ pc.1.set :=
  View.cover_of_tiledL (kernelRun0_E c i arg4 harg4 arg5 harg5 arg6 harg6 arg7 harg7 arg8 harg8 arg9 harg9 arg10 harg10 hc2 x0 x1 x2 x3 xt0 xt1 hc0 hc1).2.2.1 S1024x1024.size (by sl_kernel_rfl) y

/-- What case E leaves in scratch `arg10`: its pieces read back over junk. -/
def sout0_E_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_1.read (Elt F) (VS0_1.writes (Elt F) VS0_1.junk (kernelRun0_E c i arg4 harg4 arg5 harg5 arg6 harg6 arg7 harg7 arg8 harg8 arg9 harg9 arg10 harg10 hc2 x0 x1 x2 x3 xt0 xt1 hc0 hc1).2.2.1)

/-- Case F's pieces for output 4 tile its block (1 store of `S8192x128`, checked by the kernel's evaluation: Lib/Ring.lean `Piece.tiledL`, linear in the pieces, through a loop's `@[irreducible]` trip theorem too), so they cover it. -/
theorem cover0_F_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) (y : S8192x128.Idx) :
    ∃ pc ∈ (kernelRun0_F c i arg4 harg4 arg5 harg5 arg6 harg6 arg7 harg7 arg8 harg8 arg9 harg9 arg10 harg10 hc2 x0 x1 x2 x3 xt0 xt1 hc0 hc1).1, y ∈ pc.1.set :=
  View.cover_of_tiledL (kernelRun0_F c i arg4 harg4 arg5 harg5 arg6 harg6 arg7 harg7 arg8 harg8 arg9 harg9 arg10 harg10 hc2 x0 x1 x2 x3 xt0 xt1 hc0 hc1).1 S8192x128.size (by sl_kernel_rfl) y

/-- What case F leaves in output 4's staging buffer: its pieces read back over junk. -/
def out0_F_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S8192x128 .f32 :=
  VO0_4.read (Elt F) (VO0_4.writes (Elt F) VO0_4.junk (kernelRun0_F c i arg4 harg4 arg5 harg5 arg6 harg6 arg7 harg7 arg8 harg8 arg9 harg9 arg10 harg10 hc2 x0 x1 x2 x3 xt0 xt1 hc0 hc1).1)

/-- Case F's pieces for scratch `arg9`, which the kernel carries between points, cover it: 8 pieces of `S1024x128` tiling it (Lib/Ring.lean `Piece.tiledL`). -/
theorem scover0_F_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_F c i arg4 harg4 arg5 harg5 arg6 harg6 arg7 harg7 arg8 harg8 arg9 harg9 arg10 harg10 hc2 x0 x1 x2 x3 xt0 xt1 hc0 hc1).2.1, y ∈ pc.1.set :=
  View.cover_of_tiledL (kernelRun0_F c i arg4 harg4 arg5 harg5 arg6 harg6 arg7 harg7 arg8 harg8 arg9 harg9 arg10 harg10 hc2 x0 x1 x2 x3 xt0 xt1 hc0 hc1).2.1 S1024x128.size (by sl_kernel_rfl) y

/-- What case F leaves in scratch `arg9`: its pieces read back over junk. -/
def sout0_F_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .bf16 :=
  VS0_0.read (Elt F) (VS0_0.writes (Elt F) VS0_0.junk (kernelRun0_F c i arg4 harg4 arg5 harg5 arg6 harg6 arg7 harg7 arg8 harg8 arg9 harg9 arg10 harg10 hc2 x0 x1 x2 x3 xt0 xt1 hc0 hc1).2.1)

/-- Case F's pieces for scratch `arg10`, which the kernel carries between points, cover it: 1 piece of `S1024x1024` tiling it (Lib/Ring.lean `Piece.tiledL`). -/
theorem scover0_F_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_F c i arg4 harg4 arg5 harg5 arg6 harg6 arg7 harg7 arg8 harg8 arg9 harg9 arg10 harg10 hc2 x0 x1 x2 x3 xt0 xt1 hc0 hc1).2.2.1, y ∈ pc.1.set :=
  View.cover_of_tiledL (kernelRun0_F c i arg4 harg4 arg5 harg5 arg6 harg6 arg7 harg7 arg8 harg8 arg9 harg9 arg10 harg10 hc2 x0 x1 x2 x3 xt0 xt1 hc0 hc1).2.2.1 S1024x1024.size (by sl_kernel_rfl) y

/-- What case F leaves in scratch `arg10`: its pieces read back over junk. -/
def sout0_F_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_1.read (Elt F) (VS0_1.writes (Elt F) VS0_1.junk (kernelRun0_F c i arg4 harg4 arg5 harg5 arg6 harg6 arg7 harg7 arg8 harg8 arg9 harg9 arg10 harg10 hc2 x0 x1 x2 x3 xt0 xt1 hc0 hc1).2.2.1)

/-- Case G's pieces for output 4 tile its block (1 store of `S8192x128`, checked by the kernel's evaluation: Lib/Ring.lean `Piece.tiledL`, linear in the pieces, through a loop's `@[irreducible]` trip theorem too), so they cover it. -/
theorem cover0_G_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S8192x128.Idx) :
    ∃ pc ∈ (kernelRun0_G c i arg4 harg4 arg5 harg5 arg6 harg6 arg7 harg7 arg8 harg8 arg9 harg9 arg10 harg10 hc2 x0 x1 x2 x3 xt0 xt1 xs0 xs1 hc0 hc1).1, y ∈ pc.1.set :=
  View.cover_of_tiledL (kernelRun0_G c i arg4 harg4 arg5 harg5 arg6 harg6 arg7 harg7 arg8 harg8 arg9 harg9 arg10 harg10 hc2 x0 x1 x2 x3 xt0 xt1 xs0 xs1 hc0 hc1).1 S8192x128.size (by sl_kernel_rfl) y

/-- What case G leaves in output 4's staging buffer: its pieces read back over junk. -/
def out0_G_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S8192x128 .f32 :=
  VO0_4.read (Elt F) (VO0_4.writes (Elt F) VO0_4.junk (kernelRun0_G c i arg4 harg4 arg5 harg5 arg6 harg6 arg7 harg7 arg8 harg8 arg9 harg9 arg10 harg10 hc2 x0 x1 x2 x3 xt0 xt1 xs0 xs1 hc0 hc1).1)

/-- Case G stores nothing into scratch `arg9`: it holds what the point before left. -/
def sout0_G_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x1024 .bf16 := xs0

/-- Case G's pieces for scratch `arg10`, which the kernel carries between points, cover it: 1 piece of `S1024x1024` tiling it (Lib/Ring.lean `Piece.tiledL`). -/
theorem scover0_G_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S1024x1024.Idx) :
    ∃ pc ∈ (kernelRun0_G c i arg4 harg4 arg5 harg5 arg6 harg6 arg7 harg7 arg8 harg8 arg9 harg9 arg10 harg10 hc2 x0 x1 x2 x3 xt0 xt1 xs0 xs1 hc0 hc1).2.2.1, y ∈ pc.1.set :=
  View.cover_of_tiledL (kernelRun0_G c i arg4 harg4 arg5 harg5 arg6 harg6 arg7 harg7 arg8 harg8 arg9 harg9 arg10 harg10 hc2 x0 x1 x2 x3 xt0 xt1 xs0 xs1 hc0 hc1).2.2.1 S1024x1024.size (by sl_kernel_rfl) y

/-- What case G leaves in scratch `arg10`: its pieces read back over junk. -/
def sout0_G_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x1024 .f32 :=
  VS0_1.read (Elt F) (VS0_1.writes (Elt F) VS0_1.junk (kernelRun0_G c i arg4 harg4 arg5 harg5 arg6 harg6 arg7 harg7 arg8 harg8 arg9 harg9 arg10 harg10 hc2 x0 x1 x2 x3 xt0 xt1 xs0 xs1 hc0 hc1).2.2.1)

/-- Case H's pieces for output 4 tile its block (1 store of `S8192x128`, checked by the kernel's evaluation: Lib/Ring.lean `Piece.tiledL`, linear in the pieces, through a loop's `@[irreducible]` trip theorem too), so they cover it. -/
theorem cover0_H_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) (y : S8192x128.Idx) :
    ∃ pc ∈ (kernelRun0_H c i arg4 harg4 arg5 harg5 arg6 harg6 arg7 harg7 arg8 harg8 arg9 harg9 arg10 harg10 hc2 x0 x1 x2 x3 xt0 xt1 xs0 xs1 hc0 hc1).1, y ∈ pc.1.set :=
  View.cover_of_tiledL (kernelRun0_H c i arg4 harg4 arg5 harg5 arg6 harg6 arg7 harg7 arg8 harg8 arg9 harg9 arg10 harg10 hc2 x0 x1 x2 x3 xt0 xt1 xs0 xs1 hc0 hc1).1 S8192x128.size (by sl_kernel_rfl) y

/-- What case H leaves in output 4's staging buffer: its pieces read back over junk. -/
def out0_H_4 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S8192x128 .f32 :=
  VO0_4.read (Elt F) (VO0_4.writes (Elt F) VO0_4.junk (kernelRun0_H c i arg4 harg4 arg5 harg5 arg6 harg6 arg7 harg7 arg8 harg8 arg9 harg9 arg10 harg10 hc2 x0 x1 x2 x3 xt0 xt1 xs0 xs1 hc0 hc1).1)

/-- Case H stores nothing into scratch `arg9`: it holds what the point before left. -/
def sout0_H_0 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .bf16 := xs0

/-- Case H stores nothing into scratch `arg10`: it holds what the point before left. -/
def sout0_H_1 (c : Dev nD) (i : grid0.Coords) (arg4 : Memref sig .tc .vmem S8192x128 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S8192x128 .f32) (harg8 : arg8.IsWhole) (arg9 : Memref sig .tc .vmem S1024x1024 .bf16) (harg9 : arg9.IsWhole) (arg10 : Memref sig .tc .vmem S1024x1024 .f32) (harg10 : arg10.IsWhole) (hc2 : cond0_2 i)
    (x0 : Vec F S8192x128 .f32) (x1 : Vec F S1x1024x512 .f32) (x2 : Vec F S1x1024x512 .f32) (x3 : Vec F S1x512x1024 .f32) (xt0 : TbBuf0 (F := F) c tbM0_0) (xt1 : TbBuf0 (F := F) c tbM0_1) (xs0 : Vec F S1024x1024 .bf16) (xs1 : Vec F S1024x1024 .f32) (hc0 : ¬cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x1024 .f32 := xs1

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S8192x128 .f32 × Vec F S1024x1024 .bf16 × Vec F S1024x1024 .f32
  | 0, hn => if h0 : cond0_0 (grid0.coords ⟨0, hn⟩) (tbM0_1.view.readAt (Elt F) (Rect.unit (s := S1) ![0] S1.size inb_S1_S1_0).toLoadRect (tbl m 1) (Shape.Idx.first (numel1_S1.symm ▸ Nat.one_pos))) then
      if h1 : cond0_1 (grid0.coords ⟨0, hn⟩) (tbM0_1.view.readAt (Elt F) (Rect.unit (s := S1) ![0] S1.size inb_S1_S1_0).toLoadRect (tbl m 1) (Shape.Idx.first (numel1_S1.symm ▸ Nat.one_pos))) then
        (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0 h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0 h1, sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0 h1)
      else
        (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0 h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0 h1, sout0_B_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h0 h1)
    else
      if h1 : cond0_1 (grid0.coords ⟨0, hn⟩) (tbM0_1.view.readAt (Elt F) (Rect.unit (s := S1) ![0] S1.size inb_S1_S1_0).toLoadRect (tbl m 1) (Shape.Idx.first (numel1_S1.symm ▸ Nat.one_pos))) then
        (out0_C_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) ((VO0_4.read (Elt F) VO0_4.junk, VS0_0.read (Elt F) VS0_0.junk, VS0_1.read (Elt F) VS0_1.junk) : Vec F S8192x128 .f32 × Vec F S1024x1024 .bf16 × Vec F S1024x1024 .f32).2.1 ((VO0_4.read (Elt F) VO0_4.junk, VS0_0.read (Elt F) VS0_0.junk, VS0_1.read (Elt F) VS0_1.junk) : Vec F S8192x128 .f32 × Vec F S1024x1024 .bf16 × Vec F S1024x1024 .f32).2.2 h0 h1, sout0_C_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) ((VO0_4.read (Elt F) VO0_4.junk, VS0_0.read (Elt F) VS0_0.junk, VS0_1.read (Elt F) VS0_1.junk) : Vec F S8192x128 .f32 × Vec F S1024x1024 .bf16 × Vec F S1024x1024 .f32).2.1 ((VO0_4.read (Elt F) VO0_4.junk, VS0_0.read (Elt F) VS0_0.junk, VS0_1.read (Elt F) VS0_1.junk) : Vec F S8192x128 .f32 × Vec F S1024x1024 .bf16 × Vec F S1024x1024 .f32).2.2 h0 h1, sout0_C_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) ((VO0_4.read (Elt F) VO0_4.junk, VS0_0.read (Elt F) VS0_0.junk, VS0_1.read (Elt F) VS0_1.junk) : Vec F S8192x128 .f32 × Vec F S1024x1024 .bf16 × Vec F S1024x1024 .f32).2.1 ((VO0_4.read (Elt F) VO0_4.junk, VS0_0.read (Elt F) VS0_0.junk, VS0_1.read (Elt F) VS0_1.junk) : Vec F S8192x128 .f32 × Vec F S1024x1024 .bf16 × Vec F S1024x1024 .f32).2.2 h0 h1)
      else
        (out0_D_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) ((VO0_4.read (Elt F) VO0_4.junk, VS0_0.read (Elt F) VS0_0.junk, VS0_1.read (Elt F) VS0_1.junk) : Vec F S8192x128 .f32 × Vec F S1024x1024 .bf16 × Vec F S1024x1024 .f32).2.1 ((VO0_4.read (Elt F) VO0_4.junk, VS0_0.read (Elt F) VS0_0.junk, VS0_1.read (Elt F) VS0_1.junk) : Vec F S8192x128 .f32 × Vec F S1024x1024 .bf16 × Vec F S1024x1024 .f32).2.2 h0 h1, sout0_D_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) ((VO0_4.read (Elt F) VO0_4.junk, VS0_0.read (Elt F) VS0_0.junk, VS0_1.read (Elt F) VS0_1.junk) : Vec F S8192x128 .f32 × Vec F S1024x1024 .bf16 × Vec F S1024x1024 .f32).2.1 ((VO0_4.read (Elt F) VO0_4.junk, VS0_0.read (Elt F) VS0_0.junk, VS0_1.read (Elt F) VS0_1.junk) : Vec F S8192x128 .f32 × Vec F S1024x1024 .bf16 × Vec F S1024x1024 .f32).2.2 h0 h1, sout0_D_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) ((VO0_4.read (Elt F) VO0_4.junk, VS0_0.read (Elt F) VS0_0.junk, VS0_1.read (Elt F) VS0_1.junk) : Vec F S8192x128 .f32 × Vec F S1024x1024 .bf16 × Vec F S1024x1024 .f32).2.1 ((VO0_4.read (Elt F) VO0_4.junk, VS0_0.read (Elt F) VS0_0.junk, VS0_1.read (Elt F) VS0_1.junk) : Vec F S8192x128 .f32 × Vec F S1024x1024 .bf16 × Vec F S1024x1024 .f32).2.2 h0 h1)
  | n + 1, hn =>
    if h0 : cond0_0 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h1 : cond0_1 (grid0.coords ⟨n + 1, hn⟩) (tbM0_1.view.readAt (Elt F) (Rect.unit (s := S1) ![0] S1.size inb_S1_S1_0).toLoadRect (tbl m 1) (Shape.Idx.first (numel1_S1.symm ▸ Nat.one_pos))) then
        if h2 : (n + 1) % 7 = 6 then
          (out0_E_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1, sout0_E_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1)
        else
          (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1, sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1)
      else
        if h2 : (n + 1) % 7 = 6 then
          (out0_F_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1, sout0_F_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1)
        else
          (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h0 h1)
    else
      if h1 : cond0_1 (grid0.coords ⟨n + 1, hn⟩) (tbM0_1.view.readAt (Elt F) (Rect.unit (s := S1) ![0] S1.size inb_S1_S1_0).toLoadRect (tbl m 1) (Shape.Idx.first (numel1_S1.symm ▸ Nat.one_pos))) then
        if h2 : (n + 1) % 7 = 6 then
          (out0_G_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1, sout0_G_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1, sout0_G_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1)
        else
          (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1)
      else
        if h2 : (n + 1) % 7 = 6 then
          (out0_H_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1, sout0_H_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1, sout0_H_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1)
        else
          (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1, sout0_D_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO hH c n (Nat.lt_of_succ_lt hn)).2.1 (outsAt0 hO hH c n (Nat.lt_of_succ_lt hn)).2.2 h0 h1)

/-- `outsAt0` at a point of case A: that case's contents. -/
theorem outsAt0_A (hO : Ok m) (hH : Hyps m hO) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 7 = 6) :
    outsAt0 m hO hH c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) h0 h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) h0 h1, sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) h0 h1) := by
  obtain ⟨n, hn⟩ := t
  cases n with
  | zero => exact (dif_pos h0).trans ((dif_pos h1).trans rfl)
  | succ n =>
    conv_lhs => unfold outsAt0
    rw [dif_pos h0, dif_pos h1, dif_neg h2]

/-- `outsAt0` at a point of case B: that case's contents. -/
theorem outsAt0_B (hO : Ok m) (hH : Hyps m hO) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 7 = 6) :
    outsAt0 m hO hH c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) h0 h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) h0 h1, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) h0 h1) := by
  obtain ⟨n, hn⟩ := t
  cases n with
  | zero => exact (dif_pos h0).trans ((dif_neg h1).trans rfl)
  | succ n =>
    conv_lhs => unfold outsAt0
    rw [dif_pos h0, dif_neg h1, dif_neg h2]

/-- `outsAt0` at a point of case C: that case's contents, over what the point before left. -/
theorem outsAt0_C (hO : Ok m) (hH : Hyps m hO) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 7 = 6) (hq0C : ¬(t.val % 504 = 0)) :
    outsAt0 m hO hH c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1) := by
  obtain ⟨n, hn⟩ := t
  cases n with
  | zero => exact (by exfalso; (try dsimp only at hq0C); exact by omega)
  | succ n =>
    have hp : outsAt0 m hO hH c ((⟨n + 1, hn⟩ : Fin (cfgM m hO).N).val - 1) (Nat.lt_of_le_of_lt (Nat.sub_le _ _) hn)
        = outsAt0 m hO hH c n (Nat.lt_of_succ_lt hn) := rfl
    rw [hp]
    clear hp
    conv_lhs => unfold outsAt0
    rw [dif_neg h0, dif_pos h1, dif_neg h2]

/-- `outsAt0` at a point of case D: that case's contents, over what the point before left. -/
theorem outsAt0_D (hO : Ok m) (hH : Hyps m hO) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 7 = 6) (hq0D : ¬(t.val % 504 = 0)) :
    outsAt0 m hO hH c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1, sout0_D_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h2 ((hcond0_2 t).mp h)) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1) := by
  obtain ⟨n, hn⟩ := t
  cases n with
  | zero => exact (by exfalso; (try dsimp only at hq0D); exact by omega)
  | succ n =>
    have hp : outsAt0 m hO hH c ((⟨n + 1, hn⟩ : Fin (cfgM m hO).N).val - 1) (Nat.lt_of_le_of_lt (Nat.sub_le _ _) hn)
        = outsAt0 m hO hH c n (Nat.lt_of_succ_lt hn) := rfl
    rw [hp]
    clear hp
    conv_lhs => unfold outsAt0
    rw [dif_neg h0, dif_neg h1, dif_neg h2]

/-- `outsAt0` at a point of case E: that case's contents. -/
theorem outsAt0_E (hO : Ok m) (hH : Hyps m hO) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 7 = 6) :
    outsAt0 m hO hH c t.val t.isLt = (out0_E_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) h0 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) h0 h1, sout0_E_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) h0 h1) := by
  obtain ⟨n, hn⟩ := t
  cases n with
  | zero => exact (by exfalso; (try dsimp only at h2); exact by omega)
  | succ n =>
    conv_lhs => unfold outsAt0
    rw [dif_pos h0, dif_pos h1, dif_pos h2]

/-- `outsAt0` at a point of case F: that case's contents. -/
theorem outsAt0_F (hO : Ok m) (hH : Hyps m hO) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 7 = 6) :
    outsAt0 m hO hH c t.val t.isLt = (out0_F_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) h0 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) h0 h1, sout0_F_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) h0 h1) := by
  obtain ⟨n, hn⟩ := t
  cases n with
  | zero => exact (by exfalso; (try dsimp only at h2); exact by omega)
  | succ n =>
    conv_lhs => unfold outsAt0
    rw [dif_pos h0, dif_neg h1, dif_pos h2]

/-- `outsAt0` at a point of case G: that case's contents, over what the point before left. -/
theorem outsAt0_G (hO : Ok m) (hH : Hyps m hO) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 7 = 6) :
    outsAt0 m hO hH c t.val t.isLt = (out0_G_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1, sout0_G_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1, sout0_G_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1) := by
  obtain ⟨n, hn⟩ := t
  cases n with
  | zero => exact (by exfalso; (try dsimp only at h2); exact by omega)
  | succ n =>
    have hp : outsAt0 m hO hH c ((⟨n + 1, hn⟩ : Fin (cfgM m hO).N).val - 1) (Nat.lt_of_le_of_lt (Nat.sub_le _ _) hn)
        = outsAt0 m hO hH c n (Nat.lt_of_succ_lt hn) := rfl
    rw [hp]
    clear hp
    conv_lhs => unfold outsAt0
    rw [dif_neg h0, dif_pos h1, dif_pos h2]

/-- `outsAt0` at a point of case H: that case's contents, over what the point before left. -/
theorem outsAt0_H (hO : Ok m) (hH : Hyps m hO) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 7 = 6) :
    outsAt0 m hO hH c t.val t.isLt = (out0_H_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1, sout0_H_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1, sout0_H_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_2 t).mpr h2) (iblk m hO c 0 t) (iblk m hO c 1 t) (iblk m hO c 2 t) (iblk m hO c 3 t) (tbl m 0) (tbl m 1) (outsAt0 m hO hH c (t.val - 1) (Nat.lt_of_le_of_lt (Nat.sub_le _ _) t.isLt)).2.1 (outsAt0 m hO hH c (t.val - 1) (Nat.lt_of_le_of_lt (Nat.sub_le _ _) t.isLt)).2.2 h0 h1) := by
  obtain ⟨n, hn⟩ := t
  cases n with
  | zero => exact (by exfalso; (try dsimp only at h2); exact by omega)
  | succ n =>
    have hp : outsAt0 m hO hH c ((⟨n + 1, hn⟩ : Fin (cfgM m hO).N).val - 1) (Nat.lt_of_le_of_lt (Nat.sub_le _ _) hn)
        = outsAt0 m hO hH c n (Nat.lt_of_succ_lt hn) := rfl
    rw [hp]
    clear hp
    conv_lhs => unfold outsAt0
    rw [dif_neg h0, dif_neg h1, dif_pos h2]

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).2.1) ∗ owns (c : Thread nD τ) scM0_1 fullShare ((outsAt0 m hO hH c n hn).2.2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).2.1) ∗ owns (c : Thread nD τ) scM0_1 fullShare ((outsAt0 m hO hH c n hn).2.2)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).2.1) ∗ owns (c : Thread nD τ) scM0_1 fullShare ((outsAt0 m hO hH c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO hH c t.val t.isLt).1
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = (outsAt0 m hO hH c t.val t.isLt).1 := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t)

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3]
  rw [show (dats m hO hH 0 c).owesAt () t.succ = (dats m hO hH 0 c).owesAt () t.castSucc from rfl]
  rw [show (dats m hO hH 0 c).Φ t.succ = PhiS m hO hH c (t.val + 1) t.isLt from rfl, PhiS_succ, PhiT0_eq]
  have hN : t.val < 504 := lt_of_lt_of_eq t.isLt (show (cfgM m hO).N = 504 from N_0)
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 7 = 6
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [show (dats m hO hH 0 c).leavesExact 4 t = owns (c : Thread nD τ) (ms0_4 m hO t) fullShare ((dats m hO hH 0 c).after 4 t) from by
      unfold Dat.leavesExact; rw [liveAt0_4_E m hO t ((hcond0_2 t).mpr h2)]; try rfl, after0_4]
        by_cases hz : t.val = 0
        · exfalso; have hN : t.val < 504 := lt_of_lt_of_eq t.isLt (show (cfgM m hO).N = 504 from N_0); omega
        · rw [PhiS_castSucc m hO hH c t, PhiS_pos m hO hH c _ _ hz, PhiT0_eq]
          rw [outsAt0_E m hO hH c t h0 h1 h2]
          unfold out0_E_4 sout0_E_0 sout0_E_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_E c (grid0.coords t) _ _ _ _ _ _ _ _ _ _ _ _ _ _ ((hcond0_2 t).mpr h2) (iblk m hO c 0 t) (iblk m hO c 1 t) (iblk m hO c 2 t) (iblk m hO c 3 t) (tbl m 0) (tbl m 1) h0 h1).2.2.2 Set.univ _)
          isplitl [H0]; · iexact H0
          isplitl [H1]; · iexact H1
          isplitl [H2]; · iexact H2
          isplitl [H3]; · iexact H3
          isplitl [H4]; · iexists _; iexact H4
          isplitl [HS0]; · iexists _; iexact HS0
          isplitl [HS1]; · iexists _; iexact HS1
          isplitl [HT0]; · iexact HT0
          isplitl [HT1]; · iexact HT1
          iintro ⟨H0, H1, H2, H3, ⟨%e4, H4⟩, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _)
                unfold owns; iexists _; isplitr
                swap; · iexact HS1
                ipureintro; exact View.read_writes_of_cover _ _ _ _ _ (scover0_E_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_E_4 c _ _ _ _ _ _ _ _ _ _ _ _ _ _ _ _ _ _ _ _ _ _ _ _)
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [Dat.leavesExact_idle (dats m hO hH 0 c) 4 t (idleAt0_4_A m hO t (fun h => h2 ((hcond0_2 t).mp h))) (noFlush0_4_A m hO t (fun h => h2 ((hcond0_2 t).mp h)))]
        by_cases hz : t.val = 0
        · rw [PhiS_castSucc m hO hH c t, PhiS_zero m hO hH c _ _ hz, PhiT0_eq, PhiA0_eq]
          rw [outsAt0_A m hO hH c t h0 h1 h2]
          unfold sout0_A_0 sout0_A_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ (fun h => h2 ((hcond0_2 t).mp h)) (iblk m hO c 0 t) (iblk m hO c 1 t) (iblk m hO c 2 t) (iblk m hO c 3 t) (tbl m 0) (tbl m 1) h0 h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO hH c t, PhiS_pos m hO hH c _ _ hz, PhiT0_eq]
          rw [outsAt0_A m hO hH c t h0 h1 h2]
          unfold sout0_A_0 sout0_A_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ (fun h => h2 ((hcond0_2 t).mp h)) (iblk m hO c 0 t) (iblk m hO c 1 t) (iblk m hO c 2 t) (iblk m hO c 3 t) (tbl m 0) (tbl m 1) h0 h1).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 7 = 6
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [show (dats m hO hH 0 c).leavesExact 4 t = owns (c : Thread nD τ) (ms0_4 m hO t) fullShare ((dats m hO hH 0 c).after 4 t) from by
      unfold Dat.leavesExact; rw [liveAt0_4_F m hO t ((hcond0_2 t).mpr h2)]; try rfl, after0_4]
        by_cases hz : t.val = 0
        · exfalso; have hN : t.val < 504 := lt_of_lt_of_eq t.isLt (show (cfgM m hO).N = 504 from N_0); omega
        · rw [PhiS_castSucc m hO hH c t, PhiS_pos m hO hH c _ _ hz, PhiT0_eq]
          rw [outsAt0_F m hO hH c t h0 h1 h2]
          unfold out0_F_4 sout0_F_0 sout0_F_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_F c (grid0.coords t) _ _ _ _ _ _ _ _ _ _ _ _ _ _ ((hcond0_2 t).mpr h2) (iblk m hO c 0 t) (iblk m hO c 1 t) (iblk m hO c 2 t) (iblk m hO c 3 t) (tbl m 0) (tbl m 1) h0 h1).2.2.2 Set.univ _)
          isplitl [H0]; · iexact H0
          isplitl [H1]; · iexact H1
          isplitl [H2]; · iexact H2
          isplitl [H3]; · iexact H3
          isplitl [H4]; · iexists _; iexact H4
          isplitl [HS0]; · iexists _; iexact HS0
          isplitl [HS1]; · iexists _; iexact HS1
          isplitl [HT0]; · iexact HT0
          isplitl [HT1]; · iexact HT1
          iintro ⟨H0, H1, H2, H3, ⟨%e4, H4⟩, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_F_0 c _ _ _ _ _ _ _ _ _ _ _ _ _ _ _ _ _ _ _ _ _ _ _ _)
                unfold owns; iexists _; isplitr
                swap; · iexact HS1
                ipureintro; exact View.read_writes_of_cover _ _ _ _ _ (scover0_F_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_F_4 c _ _ _ _ _ _ _ _ _ _ _ _ _ _ _ _ _ _ _ _ _ _ _ _)
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [Dat.leavesExact_idle (dats m hO hH 0 c) 4 t (idleAt0_4_B m hO t (fun h => h2 ((hcond0_2 t).mp h))) (noFlush0_4_B m hO t (fun h => h2 ((hcond0_2 t).mp h)))]
        by_cases hz : t.val = 0
        · rw [PhiS_castSucc m hO hH c t, PhiS_zero m hO hH c _ _ hz, PhiT0_eq, PhiA0_eq]
          rw [outsAt0_B m hO hH c t h0 h1 h2]
          unfold sout0_B_0 sout0_B_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ (fun h => h2 ((hcond0_2 t).mp h)) (iblk m hO c 0 t) (iblk m hO c 1 t) (iblk m hO c 2 t) (iblk m hO c 3 t) (tbl m 0) (tbl m 1) h0 h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _)
                unfold owns; iexists _; isplitr
                swap; · iexact HS1
                ipureintro; exact View.read_writes_of_cover _ _ _ _ _ (scover0_B_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO hH c t, PhiS_pos m hO hH c _ _ hz, PhiT0_eq]
          rw [outsAt0_B m hO hH c t h0 h1 h2]
          unfold sout0_B_0 sout0_B_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ (fun h => h2 ((hcond0_2 t).mp h)) (iblk m hO c 0 t) (iblk m hO c 1 t) (iblk m hO c 2 t) (iblk m hO c 3 t) (tbl m 0) (tbl m 1) h0 h1).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _)
                unfold owns; iexists _; isplitr
                swap; · iexact HS1
                ipureintro; exact View.read_writes_of_cover _ _ _ _ _ (scover0_B_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 7 = 6
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [show (dats m hO hH 0 c).leavesExact 4 t = owns (c : Thread nD τ) (ms0_4 m hO t) fullShare ((dats m hO hH 0 c).after 4 t) from by
      unfold Dat.leavesExact; rw [liveAt0_4_G m hO t ((hcond0_2 t).mpr h2)]; try rfl, after0_4]
        by_cases hz : t.val = 0
        · exfalso; have hN : t.val < 504 := lt_of_lt_of_eq t.isLt (show (cfgM m hO).N = 504 from N_0); omega
        · rw [PhiS_castSucc m hO hH c t, PhiS_pos m hO hH c _ _ hz, PhiT0_eq]
          rw [outsAt0_G m hO hH c t h0 h1 h2]
          unfold out0_G_4 sout0_G_0 sout0_G_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_G c (grid0.coords t) _ _ _ _ _ _ _ _ _ _ _ _ _ _ ((hcond0_2 t).mpr h2) (iblk m hO c 0 t) (iblk m hO c 1 t) (iblk m hO c 2 t) (iblk m hO c 3 t) (tbl m 0) (tbl m 1) _ _ h0 h1).2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HT0]; · iexact HT0
          isplitl [HT1]; · iexact HT1
          iintro ⟨H0, H1, H2, H3, ⟨%e4, H4⟩, HS0, ⟨%es1, HS1⟩, HT0, HT1⟩
          isplitl [HS0 HS1 Hg HT0 HT1]
          · isplitl [HS0 HS1 Hg]
            · isplitl [HS0 HS1]
              · isplitl [HS0]
                · iexact HS0
                unfold owns; iexists _; isplitr
                swap; · iexact HS1
                ipureintro; exact View.read_writes_of_cover _ _ _ _ _ (scover0_G_1 c _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_G_4 c _ _ _ _ _ _ _ _ _ _ _ _ _ _ _ _ _ _ _ _ _ _ _ _ _ _)
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [Dat.leavesExact_idle (dats m hO hH 0 c) 4 t (idleAt0_4_C m hO t (fun h => h2 ((hcond0_2 t).mp h))) (noFlush0_4_C m hO t (fun h => h2 ((hcond0_2 t).mp h)))]
        by_cases hz : t.val = 0
        · exfalso; have := Hyps.c0 hH c t h0 h1 (fun h => h2 ((hcond0_2 t).mp h)); omega
        · rw [PhiS_castSucc m hO hH c t, PhiS_pos m hO hH c _ _ hz, PhiT0_eq]
          rw [outsAt0_C m hO hH c t h0 h1 h2 ((Hyps.c0 hH c t) h0 h1 (fun h => h2 ((hcond0_2 t).mp h)))]
          unfold sout0_C_0 sout0_C_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ (fun h => h2 ((hcond0_2 t).mp h)) (iblk m hO c 0 t) (iblk m hO c 1 t) (iblk m hO c 2 t) (iblk m hO c 3 t) (tbl m 0) (tbl m 1) _ _ h0 h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, HS0, ⟨%es1, HS1⟩, HT0, HT1⟩
          isplitl [HS0 HS1 Hg HT0 HT1]
          · isplitl [HS0 HS1 Hg]
            · isplitl [HS0 HS1]
              · isplitl [HS0]
                · iexact HS0
                unfold owns; iexists _; isplitr
                swap; · iexact HS1
                ipureintro; exact View.read_writes_of_cover _ _ _ _ _ (scover0_C_1 c _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 7 = 6
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [show (dats m hO hH 0 c).leavesExact 4 t = owns (c : Thread nD τ) (ms0_4 m hO t) fullShare ((dats m hO hH 0 c).after 4 t) from by
      unfold Dat.leavesExact; rw [liveAt0_4_H m hO t ((hcond0_2 t).mpr h2)]; try rfl, after0_4]
        by_cases hz : t.val = 0
        · exfalso; have hN : t.val < 504 := lt_of_lt_of_eq t.isLt (show (cfgM m hO).N = 504 from N_0); omega
        · rw [PhiS_castSucc m hO hH c t, PhiS_pos m hO hH c _ _ hz, PhiT0_eq]
          rw [outsAt0_H m hO hH c t h0 h1 h2]
          unfold out0_H_4 sout0_H_0 sout0_H_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_H c (grid0.coords t) _ _ _ _ _ _ _ _ _ _ _ _ _ _ ((hcond0_2 t).mpr h2) (iblk m hO c 0 t) (iblk m hO c 1 t) (iblk m hO c 2 t) (iblk m hO c 3 t) (tbl m 0) (tbl m 1) _ _ h0 h1).2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HT0]; · iexact HT0
          isplitl [HT1]; · iexact HT1
          iintro ⟨H0, H1, H2, H3, ⟨%e4, H4⟩, HS0, HS1, HT0, HT1⟩
          isplitl [HS0 HS1 Hg HT0 HT1]
          · isplitl [HS0 HS1 Hg]
            · isplitl [HS0 HS1]
              · isplitl [HS0]
                · iexact HS0
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_H_4 c _ _ _ _ _ _ _ _ _ _ _ _ _ _ _ _ _ _ _ _ _ _ _ _ _ _)
      · rw [show (dats m hO hH 0 c).leavesExact 0 t = owns (c : Thread nD τ) (ms0_0 m hO t) fullShare ((dats m hO hH 0 c).after 0 t) from by
      unfold Dat.leavesExact; rw [liveAt0_0 m hO t]; try rfl, after0_0]
        rw [show (dats m hO hH 0 c).leavesExact 1 t = owns (c : Thread nD τ) (ms0_1 m hO t) fullShare ((dats m hO hH 0 c).after 1 t) from by
      unfold Dat.leavesExact; rw [liveAt0_1 m hO t]; try rfl, after0_1]
        rw [show (dats m hO hH 0 c).leavesExact 2 t = owns (c : Thread nD τ) (ms0_2 m hO t) fullShare ((dats m hO hH 0 c).after 2 t) from by
      unfold Dat.leavesExact; rw [liveAt0_2 m hO t]; try rfl, after0_2]
        rw [show (dats m hO hH 0 c).leavesExact 3 t = owns (c : Thread nD τ) (ms0_3 m hO t) fullShare ((dats m hO hH 0 c).after 3 t) from by
      unfold Dat.leavesExact; rw [liveAt0_3 m hO t]; try rfl, after0_3]
        rw [Dat.leavesExact_idle (dats m hO hH 0 c) 4 t (idleAt0_4_D m hO t (fun h => h2 ((hcond0_2 t).mp h))) (noFlush0_4_D m hO t (fun h => h2 ((hcond0_2 t).mp h)))]
        by_cases hz : t.val = 0
        · exfalso; have := Hyps.c1 hH c t h0 h1 (fun h => h2 ((hcond0_2 t).mp h)); omega
        · rw [PhiS_castSucc m hO hH c t, PhiS_pos m hO hH c _ _ hz, PhiT0_eq]
          rw [outsAt0_D m hO hH c t h0 h1 h2 ((Hyps.c1 hH c t) h0 h1 (fun h => h2 ((hcond0_2 t).mp h)))]
          unfold sout0_D_0 sout0_D_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ _ _ (fun h => h2 ((hcond0_2 t).mp h)) (iblk m hO c 0 t) (iblk m hO c 1 t) (iblk m hO c 2 t) (iblk m hO c 3 t) (tbl m 0) (tbl m 1) _ _ h0 h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, HS0, HS1, HT0, HT1⟩
          isplitl [HS0 HS1 Hg HT0 HT1]
          · isplitl [HS0 HS1 Hg]
            · isplitl [HS0 HS1]
              · isplitl [HS0]
                · iexact HS0
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 504 := N_0; omega)

/-! ## The run and the frame -/

-- `θ_run_frameP_track`'s implicit arguments are found by unifying its conclusion with this one, which takes unfolding plain
-- definitions in a metavariable's type
set_option backward.isDefEq.respectTransparency.types false in
/-- `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := hin m hO hH) (hout := hout m hO hH)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- The frame at any float values: under the side condition of the tables (`hO`) and the body's (`hH`) the program ends, its
    arguments are unchanged and every counter is at zero. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel2Ideal.Moe

end
-- ==== Proof.MoeGather.lean ====
module

public import proofs.«01_k».proof.Proof.Gen.Kernel2Ideal.Skeleton
public import Idealize.ShloMosaic.Lib.Pipeline.ValueKit

/-! The rows an active tile's first point gathers: row `r` of the tile is eight rows of 128 lanes of the block. -/

@[expose] public section

set_option maxRecDepth 16384

noncomputable section

namespace Cert.Kernel2Ideal.Moe

open Cert.Kernel2Ideal Cert.Kernel2Ideal.Gen Idealize.ShloMosaic Idealize.ShloMosaic.TcCoe Idealize.SL.Sem

variable {F : FTy → Type} [FloatOps F]

/-- Every eighth row of the block, from row `q`. -/
def strided (x : Vec F S8192x128 .f32) (q : ℕ) (hq : q < 8) : FVec F S1024x128 .f32 :=
  fun y => x (ix2 ⟨8 * (y 0 : ℕ) + q, by have : (y 0 : ℕ) < 1024 := (y 0).isLt; omega⟩ ⟨(y 1 : ℕ), (y 1).isLt⟩)

/-- The tile's rows, narrowed. -/
def packed (x : Vec F S8192x128 .f32) : FVec F S1024x1024 .bf16 :=
  truncf .bf16 (fun y : S1024x1024.Idx => x (ix2 ⟨8 * (y 0 : ℕ) + (y 1 : ℕ) / 128, by
    have : (y 0 : ℕ) < 1024 := (y 0).isLt
    have : (y 1 : ℕ) < 1024 := (y 1).isLt
    omega⟩ ⟨(y 1 : ℕ) % 128, Nat.mod_lt _ (by decide)⟩) : FVec F S1024x1024 .f32) bitsLt_bf16_f32

theorem load_strided (M : Memref sig .tc .vmem S8192x128 .f32) (hM : M.IsWhole) (x : Vec F S8192x128 .f32) (q : ℕ) (hq : q < 8)
    (inb : ∀ a : Fin 2, (![1024, 128] : Fin 2 → ℕ) a = 0 ∨ (![q, 0] : Fin 2 → ℕ) a + (![8, 1] : Fin 2 → ℕ) a * ((![1024, 128] : Fin 2 → ℕ) a - 1) < S8192x128.size a) :
    M.view.readAt (Elt F) { off := ![q, 0], size := ![1024, 128], stride := ![8, 1], inb := inb } (hM.unread x) = strided x q hq := by
  funext y
  rw [View.readAt_apply, hM.read_unread]
  refine congrArg x ?_
  funext (a : Fin 2)
  apply Fin.ext
  match a with
  | 0 => show q + 8 * (y 0 : ℕ) = 8 * (y 0 : ℕ) + q; omega
  | 1 => show 0 + 1 * (y 1 : ℕ) = (y 1 : ℕ); omega

theorem packed_of (x : Vec F S8192x128 .f32) :
    View.canon (Val := Elt F) (s := S1024x1024) (e := .bf16) [
        ⟨Rect.unit (s := S1024x1024) ![0, 896] ![1024, 128] inb_S1024x1024_S1024x128_0_896, k0_pay2 (strided x 7 (by decide))⟩,
        ⟨Rect.unit (s := S1024x1024) ![0, 768] ![1024, 128] inb_S1024x1024_S1024x128_0_768, k0_pay1 (strided x 6 (by decide))⟩,
        ⟨Rect.unit (s := S1024x1024) ![0, 640] ![1024, 128] inb_S1024x1024_S1024x128_0_640, k0_pay11 (strided x 5 (by decide))⟩,
        ⟨Rect.unit (s := S1024x1024) ![0, 512] ![1024, 128] inb_S1024x1024_S1024x128_0_512, k0_pay10 (strided x 4 (by decide))⟩,
        ⟨Rect.unit (s := S1024x1024) ![0, 384] ![1024, 128] inb_S1024x1024_S1024x128_0_384, k0_pay9 (strided x 3 (by decide))⟩,
        ⟨Rect.unit (s := S1024x1024) ![0, 256] ![1024, 128] inb_S1024x1024_S1024x128_0_256, k0_pay8 (strided x 2 (by decide))⟩,
        ⟨Rect.unit (s := S1024x1024) ![0, 128] ![1024, 128] inb_S1024x1024_S1024x128_0_128, k0_pay7 (strided x 1 (by decide))⟩,
        ⟨Rect.unit (s := S1024x1024) ![0, 0] ![1024, 128] inb_S1024x1024_S1024x128_0_0, k0_pay6 (strided x 0 (by decide))⟩] = packed x := by
  funext y
  canon_tiles z h
  all_goals open_payloads
  all_goals refine (congrFun (shapeCast_self _ _) _).trans ?_
  all_goals refine congrArg (FloatOps.truncf .bf16 bitsLt_bf16_f32) (congrArg x ?_)
  all_goals funext (a : Fin 2)
  all_goals apply Fin.ext
  all_goals match a with
    | 0 => show 8 * (z 0 : ℕ) + _ = 8 * (y 0 : ℕ) + (y 1 : ℕ) / 128; omega
    | 1 => show (z 1 : ℕ) = (y 1 : ℕ) % 128; omega

/-- The same with the pieces read out of the block's buffer. -/
theorem gathered (M : Memref sig .tc .vmem S8192x128 .f32) (hM : M.IsWhole) (x : Vec F S8192x128 .f32) :
    View.canon (Val := Elt F) (s := S1024x1024) (e := .bf16) [
        ⟨Rect.unit (s := S1024x1024) ![0, 896] ![1024, 128] inb_S1024x1024_S1024x128_0_896, k0_pay2 (M.view.readAt (Elt F) { off := ![7, 0], size := ![1024, 128], stride := ![8, 1], inb := inb_S8192x128_S1024x128_7_0_s_8_1 } (hM.unread x))⟩,
        ⟨Rect.unit (s := S1024x1024) ![0, 768] ![1024, 128] inb_S1024x1024_S1024x128_0_768, k0_pay1 (M.view.readAt (Elt F) { off := ![6, 0], size := ![1024, 128], stride := ![8, 1], inb := inb_S8192x128_S1024x128_6_0_s_8_1 } (hM.unread x))⟩,
        ⟨Rect.unit (s := S1024x1024) ![0, 640] ![1024, 128] inb_S1024x1024_S1024x128_0_640, k0_pay11 (M.view.readAt (Elt F) { off := ![5, 0], size := ![1024, 128], stride := ![8, 1], inb := inb_S8192x128_S1024x128_5_0_s_8_1 } (hM.unread x))⟩,
        ⟨Rect.unit (s := S1024x1024) ![0, 512] ![1024, 128] inb_S1024x1024_S1024x128_0_512, k0_pay10 (M.view.readAt (Elt F) { off := ![4, 0], size := ![1024, 128], stride := ![8, 1], inb := inb_S8192x128_S1024x128_4_0_s_8_1 } (hM.unread x))⟩,
        ⟨Rect.unit (s := S1024x1024) ![0, 384] ![1024, 128] inb_S1024x1024_S1024x128_0_384, k0_pay9 (M.view.readAt (Elt F) { off := ![3, 0], size := ![1024, 128], stride := ![8, 1], inb := inb_S8192x128_S1024x128_3_0_s_8_1 } (hM.unread x))⟩,
        ⟨Rect.unit (s := S1024x1024) ![0, 256] ![1024, 128] inb_S1024x1024_S1024x128_0_256, k0_pay8 (M.view.readAt (Elt F) { off := ![2, 0], size := ![1024, 128], stride := ![8, 1], inb := inb_S8192x128_S1024x128_2_0_s_8_1 } (hM.unread x))⟩,
        ⟨Rect.unit (s := S1024x1024) ![0, 128] ![1024, 128] inb_S1024x1024_S1024x128_0_128, k0_pay7 (M.view.readAt (Elt F) { off := ![1, 0], size := ![1024, 128], stride := ![8, 1], inb := inb_S8192x128_S1024x128_1_0_s_8_1 } (hM.unread x))⟩,
        ⟨Rect.unit (s := S1024x1024) ![0, 0] ![1024, 128] inb_S1024x1024_S1024x128_0_0, k0_pay6 (M.view.readAt (Elt F) { off := ![0, 0], size := ![1024, 128], stride := ![8, 1], inb := inb_S8192x128_S1024x128_0_0_s_8_1 } (hM.unread x))⟩] = packed x := by
  rw [load_strided M hM x 0 (by decide), load_strided M hM x 1 (by decide), load_strided M hM x 2 (by decide), load_strided M hM x 3 (by decide), load_strided M hM x 4 (by decide), load_strided M hM x 5 (by decide), load_strided M hM x 6 (by decide), load_strided M hM x 7 (by decide)]
  exact packed_of x

/-- A read of the whole covered scratch. -/
theorem read_whole (v : View sig .tc .vmem S1024x1024 .bf16) (L : List (View.Piece (Elt F) S1024x1024 .bf16)) :
    v.readCov L (Rect.unit (s := S1024x1024) ![0, 0] ![1024, 1024] inb_S1024x1024_S1024x1024_0_0).toLoadRect = View.canon L := by
  rw [View.readCov_eq_canon']
  funext y
  refine congrArg (View.canon L) ?_
  funext (a : Fin 2)
  apply Fin.ext
  match a with
  | 0 => show 0 + 1 * (y 0 : ℕ) = (y 0 : ℕ); omega
  | 1 => show 0 + 1 * (y 1 : ℕ) = (y 1 : ℕ); omega

end Cert.Kernel2Ideal.Moe

end
-- ==== Proof.MoeBlocks.lean ====
module

public import proofs.«01_k».proof.Proof.MoePre
public import proofs.«01_k».proof.Proof.MoeRun
public import proofs.«01_k».proof.Proof.MoeGather
public import Idealize.ShloMosaic.Lib.Pipeline.ValueKit

/-! The experts' kernel's blocks: where each window lies at a point of the grid, given the tables' words, what it holds there,
and what the scratch and the output hold after a point, over any float values. -/

@[expose] public section

set_option maxRecDepth 16384

noncomputable section

namespace Cert.Kernel2Ideal.Moe

open Cert.Kernel2Ideal Cert.Kernel2Ideal.Gen Idealize.ShloMosaic Idealize.ShloMosaic.TcCoe Idealize.SL.Sem

/-- A point's coordinates. -/
theorem at0 : ∀ t : Fin grid0.N, (grid0.coords t 0).val = t.val / 7 := by decide +kernel
theorem at1 : ∀ t : Fin grid0.N, (grid0.coords t 1).val = t.val % 7 := by decide +kernel

variable {F : FTy → Type} [FloatOps F] (m : (ℓ : Loc nD τ sig) → Buf (Elt F) ℓ) (hO : Ok m)

theorem idx4 : ∀ t : Fin (cfgM m hO).N, ((cfgM m hO).win 4).index t = ![t.val / 7, 0] :=
  (by decide +kernel : ∀ t : Fin grid0.N, cc0_transform_4 (grid0.coords t) = ![t.val / 7, 0])

variable {te : Fin 72 → Fin 8} {na : Fin 73} (h : Tab (tbl m) te na)

include h

theorem idx0 (t : Fin (cfgM m hO).N) : ((cfgM m hO).win 0).index t = ![min (t.val / 7) (na.val - 1), 0] :=
  (block0 h (grid0.coords t)).trans (by rw [at0])

theorem idx1 (t : Fin (cfgM m hO).N) (i : Fin 72) (hi : t.val / 7 = i) :
    ((cfgM m hO).win 1).index t = ![8 + (te i).val, 0, if t.val / 7 < na.val then t.val % 7 else 6] :=
  (block1 h (grid0.coords t)).trans (by rw [at0, at1, show grid0.coords t 0 = i from Fin.ext ((at0 t).trans hi)])

theorem idx2 (t : Fin (cfgM m hO).N) (i : Fin 72) (hi : t.val / 7 = i) :
    ((cfgM m hO).win 2).index t = ![8 + (te i).val, 0, if t.val / 7 < na.val then t.val % 7 else 6] :=
  (block2 h (grid0.coords t)).trans (by rw [at0, at1, show grid0.coords t 0 = i from Fin.ext ((at0 t).trans hi)])

theorem idx3 (t : Fin (cfgM m hO).N) (i : Fin 72) (hi : t.val / 7 = i) :
    ((cfgM m hO).win 3).index t = ![8 + (te i).val, if t.val / 7 < na.val then t.val % 7 else 6, 0] :=
  (block3 h (grid0.coords t)).trans (by rw [at0, at1, show grid0.coords t 0 = i from Fin.ext ((at0 t).trans hi)])

theorem emb_x (t : Fin (cfgM m hO).N) (i : Fin 72) (hi : t.val / 7 = i) (ha : i.val < na.val) (r : Fin 8192) (l : Fin 128) :
    (((cfgM m hO).win 0).blk t).view.emb (ix2 r l) = ix2 ⟨8192 * i + r, by omega⟩ l := by
  blk_ext [idx0 m hO h t]

theorem emb_w1 (t : Fin (cfgM m hO).N) (i : Fin 72) (hi : t.val / 7 = i) (ha : i.val < na.val) (s : Fin 7) (hs : t.val % 7 = s)
    (d : Fin 1024) (k : Fin 512) :
    (((cfgM m hO).win 1).blk t).view.emb (ix3 0 d k) = ix3 ⟨8 + (te i).val, by omega⟩ d ⟨512 * s + k, by omega⟩ := by
  have e := idx1 m hO h t i hi
  rw [if_pos (hi ▸ ha), hs] at e
  blk_ext [e]

theorem emb_w3 (t : Fin (cfgM m hO).N) (i : Fin 72) (hi : t.val / 7 = i) (ha : i.val < na.val) (s : Fin 7) (hs : t.val % 7 = s)
    (d : Fin 1024) (k : Fin 512) :
    (((cfgM m hO).win 2).blk t).view.emb (ix3 0 d k) = ix3 ⟨8 + (te i).val, by omega⟩ d ⟨512 * s + k, by omega⟩ := by
  have e := idx2 m hO h t i hi
  rw [if_pos (hi ▸ ha), hs] at e
  blk_ext [e]

theorem emb_w2 (t : Fin (cfgM m hO).N) (i : Fin 72) (hi : t.val / 7 = i) (ha : i.val < na.val) (s : Fin 7) (hs : t.val % 7 = s)
    (k : Fin 512) (l : Fin 1024) :
    (((cfgM m hO).win 3).blk t).view.emb (ix3 0 k l) = ix3 ⟨8 + (te i).val, by omega⟩ ⟨512 * s + k, by omega⟩ l := by
  have e := idx3 m hO h t i hi
  rw [if_pos (hi ▸ ha), hs] at e
  blk_ext [e]

omit h

theorem emb_out (t : Fin (cfgM m hO).N) (i : Fin 72) (hi : t.val / 7 = i) (r : Fin 8192) (l : Fin 128) :
    (((cfgM m hO).win 4).blk t).view.emb (ix2 r l) = ix2 ⟨8192 * i + r, by omega⟩ l := by
  blk_ext [idx4 m hO t]

theorem iblk_x (c : Dev nD) (t : Fin (cfgM m hO).N) (y : S8192x128.Idx) (i : S589824x128.Idx) (e : (((cfgM m hO).win 0).blk t).view.emb y = i) :
    iblk m hO c 0 t y = V m c main_arg0 i := by
  subst e
  rfl

theorem iblk_w1 (c : Dev nD) (t : Fin (cfgM m hO).N) (y : S1x1024x512.Idx) (i : S16x1024x3584.Idx) (e : (((cfgM m hO).win 1).blk t).view.emb y = i) :
    iblk m hO c 1 t y = V m c main_v2 i := by
  subst e
  rfl

theorem iblk_w3 (c : Dev nD) (t : Fin (cfgM m hO).N) (y : S1x1024x512.Idx) (i : S16x1024x3584.Idx) (e : (((cfgM m hO).win 2).blk t).view.emb y = i) :
    iblk m hO c 2 t y = V m c main_v3 i := by
  subst e
  rfl

theorem iblk_w2 (c : Dev nD) (t : Fin (cfgM m hO).N) (y : S1x512x1024.Idx) (i : S16x3584x1024.Idx) (e : (((cfgM m hO).win 3).blk t).view.emb y = i) :
    iblk m hO c 3 t y = V m c main_v4 i := by
  subst e
  rfl

/-- Whether a point's tile is active, as the body reads it. -/
abbrev Act (t : Fin (cfgM m hO).N) : Prop := cond0_1 (grid0.coords t) (tbM0_1.view.readAt (Elt F) (Rect.unit (s := S1) ![0] S1.size inb_S1_S1_0).toLoadRect (tbl m 1) (Shape.Idx.first (numel1_S1.symm ▸ Nat.one_pos)))

theorem act_iff (h : Tab (tbl m) te na) (t : Fin (cfgM m hO).N) : Act m hO t ↔ t.val / 7 < na.val := by
  rw [Act, word_read h, active_iff, at0]

theorem starts (t : Fin (cfgM m hO).N) (h0 : Act m hO t) (h1 : t.val % 7 = 0) :
    cond0_0 (grid0.coords t) (tbM0_1.view.readAt (Elt F) (Rect.unit (s := S1) ![0] S1.size inb_S1_S1_0).toLoadRect (tbl m 1) (Shape.Idx.first (numel1_S1.symm ▸ Nat.one_pos))) :=
  (first_iff _ _).mpr ⟨h0, (at1 t).trans h1⟩

theorem goes_on (t : Fin (cfgM m hO).N) (h1 : ¬t.val % 7 = 0) :
    ¬cond0_0 (grid0.coords t) (tbM0_1.view.readAt (Elt F) (Rect.unit (s := S1) ![0] S1.size inb_S1_S1_0).toLoadRect (tbl m 1) (Shape.Idx.first (numel1_S1.symm ▸ Nat.one_pos))) :=
  fun e => h1 ((at1 t).symm.trans ((first_iff _ _).mp e).2)

variable (hH : Hyps m hO) (c : Dev nD)

/-- What the point before left. -/
abbrev prev (t : Fin (cfgM m hO).N) := outsAt0 m hO hH c (t.val - 1) (Nat.lt_of_le_of_lt (Nat.sub_le _ _) t.isLt)

theorem pay4_congr {x x' : FVec F S1024x1024 .bf16} {b1 b1' b3 b3' : FVec F S1x1024x512 .f32} {a a' : FVec F S1024x1024 .f32}
    {b2 b2' : FVec F S1x512x1024 .f32} (hx : x = x') (h1 : b1 = b1') (h3 : b3 = b3') (ha : a = a') (h2 : b2 = b2') :
    k0_pay4 x b1 b3 a b2 = k0_pay4 x' b1' b3' a' b2' := by
  subst hx h1 h3 ha h2
  rfl

theorem xb_first (t : Fin (cfgM m hO).N) (h0 : Act m hO t) (h1 : t.val % 7 = 0) (h2 : ¬t.val % 7 = 6) :
    (outsAt0 m hO hH c t.val t.isLt).2.1 = packed (iblk m hO c 0 t) := by
  rw [outsAt0_A m hO hH c t (starts m hO t h0 h1) h0 h2]
  frame_out
  exact gathered (ms0_0 m hO t) (hs0_0 m hO t) _

theorem acc_first (t : Fin (cfgM m hO).N) (h0 : Act m hO t) (h1 : t.val % 7 = 0) (h2 : ¬t.val % 7 = 6) :
    (outsAt0 m hO hH c t.val t.isLt).2.2
      = k0_pay4 (outsAt0 m hO hH c t.val t.isLt).2.1 (iblk m hO c 1 t) (iblk m hO c 2 t) k0_pay3 (iblk m hO c 3 t) := by
  rw [outsAt0_A m hO hH c t (starts m hO t h0 h1) h0 h2]
  frame_out
  refine pay4_congr ?_ ((hs0_1 m hO t).read_unread _) ((hs0_2 m hO t).read_unread _) rfl ((hs0_3 m hO t).read_unread _)
  exact read_whole _ _

theorem xb_next (t : Fin (cfgM m hO).N) (h0 : Act m hO t) (h1 : ¬t.val % 7 = 0) (h2 : ¬t.val % 7 = 6) :
    (outsAt0 m hO hH c t.val t.isLt).2.1 = (prev m hO hH c t).2.1 := by
  rw [outsAt0_C m hO hH c t (goes_on m hO t h1) h0 h2 (by omega)]
  rfl

theorem acc_next (t : Fin (cfgM m hO).N) (h0 : Act m hO t) (h1 : ¬t.val % 7 = 0) (h2 : ¬t.val % 7 = 6) :
    (outsAt0 m hO hH c t.val t.isLt).2.2
      = k0_pay4 (prev m hO hH c t).2.1 (iblk m hO c 1 t) (iblk m hO c 2 t) (prev m hO hH c t).2.2 (iblk m hO c 3 t) := by
  rw [outsAt0_C m hO hH c t (goes_on m hO t h1) h0 h2 (by omega)]
  frame_out
  exact pay4_congr ((Memref.isWhole_whole _).read_unread _) ((hs0_1 m hO t).read_unread _) ((hs0_2 m hO t).read_unread _)
    ((Memref.isWhole_whole _).read_unread _) ((hs0_3 m hO t).read_unread _)

theorem out_last (h : Tab (tbl m) te na) (t : Fin (cfgM m hO).N) (h0 : Act m hO t) (h1 : ¬t.val % 7 = 0) (h2 : t.val % 7 = 6) :
    (outsAt0 m hO hH c t.val t.isLt).1
      = k0_pay5 (grid0.coords t) (BitVec.ofNat 32 na.val)
          (k0_pay4 (prev m hO hH c t).2.1 (iblk m hO c 1 t) (iblk m hO c 2 t) (prev m hO hH c t).2.2 (iblk m hO c 3 t)) := by
  rw [outsAt0_G m hO hH c t (goes_on m hO t h1) h0 h2]
  frame_out
  refine congrArg₂ (k0_pay5 (grid0.coords t)) (word_read h) ?_
  exact pay4_congr ((Memref.isWhole_whole _).read_unread _) ((hs0_1 m hO t).read_unread _) ((hs0_2 m hO t).read_unread _)
    ((Memref.isWhole_whole _).read_unread _) ((hs0_3 m hO t).read_unread _)

theorem out_idle (h : Tab (tbl m) te na) (t : Fin (cfgM m hO).N) (h0 : ¬Act m hO t) (h2 : t.val % 7 = 6) :
    (outsAt0 m hO hH c t.val t.isLt).1
      = k0_pay5 (grid0.coords t) (BitVec.ofNat 32 na.val) (prev m hO hH c t).2.2 := by
  rw [outsAt0_H m hO hH c t (goes_on m hO t (by omega)) h0 h2]
  frame_out
  exact congrArg₂ (k0_pay5 (grid0.coords t)) (word_read h) ((Memref.isWhole_whole _).read_unread _)

end Cert.Kernel2Ideal.Moe

end
-- ==== Proof.MoeRef.lean ====
module

public import proofs.«01_k».proof.Proof.Ffn
public import proofs.«01_k».proof.Proof.Gen.Reference2Ideal.Run
public import Idealize.ShloMosaic.Lib.WordCmp

/-! The experts' reference in its own order, and read at a row over the extended reals. -/

@[expose] public section

set_option maxRecDepth 16384

noncomputable section

namespace Cert.Reference2Ideal.Moe

open Cert.Ffn
open Cert.Reference2Ideal Cert.Reference2Ideal.Gen Cert.Reference2Ideal.Value Idealize.ShloMosaic Idealize.ShloMosaic.TcCoe Idealize.SL.Sem

section Terms

variable {F : FTy → Type} [FloatOps F]

/-- The rows of the dispatched tokens. -/
def rows (xs : FVec F S589824x128 .f32) : FVec F S73728x1024 .f32 := shapeCast _ xs shapeCasts_S589824x128_S73728x1024

/-- The layer's input projections. -/
def layer (w : FVec F S2x8x1024x3584 .f32) : FVec F S8x1024x3584 .f32 :=
  shapeCast _ (extractStridedSlice S1x8x1024x3584 ![1, 0, 0, 0] w slices_S2x8x1024x3584_S1x8x1024x3584_1_0_0_0) shapeCasts_S1x8x1024x3584_S8x1024x3584

/-- The layer's down projections. -/
def layerT (w : FVec F S2x8x3584x1024 .f32) : FVec F S8x3584x1024 .f32 :=
  shapeCast _ (extractStridedSlice S1x8x3584x1024 ![1, 0, 0, 0] w slices_S2x8x3584x1024_S1x8x3584x1024_1_0_0_0) shapeCasts_S1x8x3584x1024_S8x3584x1024

/-- The gate of a row and an expert. -/
def gate (te : IVec S72 32) (na : IVec S1 32) : FVec F S73728x8 .f32 :=
  shapeCast _ (broadcastInDim S72x1024x8 ![0, 2] bcast_S72x8_S72x1024x8_0_2 (uitofp .f32 (andi
    (cmpi .eq (broadcastInDim S72x8 ![0, 1] bcast_S72x1_S72x8_0_1 (broadcastInDim S72x1 ![0] bcast_S72_S72x1_0 te))
      (broadcastInDim S72x8 ![0, 1] bcast_S1x8_S72x8_0_1 (broadcastInDim S1x8 ![1] bcast_S8_S1x8_1 (iotaInDim S8 32 0))))
    (broadcastInDim S72x8 ![0, 1] bcast_S72x1_S72x8_0_1 (broadcastInDim S72x1 ![0] bcast_S72_S72x1_0
      (cmpi .slt (iotaInDim S72 32 0) (broadcastInDim S72 ![] bcast_S_S72 (shapeCast _ na shapeCasts_S1_S_)))))))) shapeCasts_S72x1024x8_S73728x8

/-- A product with one expert's input projection. -/
def into (q : Fin 3 → Nat) (h : S8x1024x3584.Slices q S1x1024x3584) (x : FVec F S73728x1024 .f32) (w : FVec F S8x1024x3584 .f32) :
    FVec F S73728x3584 .f32 :=
  Host.dotGeneral dot_S73728x1024_S1024x3584_S73728x3584_1_0_0_1_n_n none x
    (shapeCast S1024x3584 (extractStridedSlice S1x1024x3584 q w h) shapeCasts_S1x1024x3584_S1024x3584)

/-- The hidden units from the two products. -/
def units (d1 d3 : FVec F S73728x3584 .f32) : FVec F S73728x3584 .f32 :=
  mulf (mulf d1 (Host.divf (broadcastInDim S73728x3584 ![] bcast_S_S73728x3584 (constant S_ .f32 0x3F800000#32))
    (addf (broadcastInDim S73728x3584 ![] bcast_S_S73728x3584 (constant S_ .f32 0x3F800000#32)) (Host.exp (Host.negf d1))))) d3

/-- One expert's gated output. -/
def term (p : Fin 2 → Nat) (hp : S73728x8.Slices p S73728x1) (q : Fin 3 → Nat) (h1 : S8x1024x3584.Slices q S1x1024x3584)
    (h2 : S8x3584x1024.Slices q S1x3584x1024) (g : FVec F S73728x8 .f32) (x : FVec F S73728x1024 .f32)
    (w1 w3 : FVec F S8x1024x3584 .f32) (w2 : FVec F S8x3584x1024 .f32) : FVec F S73728x1024 .f32 :=
  mulf (broadcastInDim S73728x1024 ![0, 1] bcast_S73728x1_S73728x1024_0_1 (extractStridedSlice S73728x1 p g hp))
    (Host.dotGeneral dot_S73728x3584_S3584x1024_S73728x1024_1_0_0_1_n_n none (units (into q h1 x w1) (into q h1 x w3))
      (shapeCast S3584x1024 (extractStridedSlice S1x3584x1024 q w2 h2) shapeCasts_S1x3584x1024_S3584x1024))

/-- The experts' sum. -/
def total (g : FVec F S73728x8 .f32) (x : FVec F S73728x1024 .f32)
    (w1 w3 : FVec F S8x1024x3584 .f32) (w2 : FVec F S8x3584x1024 .f32) : FVec F S73728x1024 .f32 :=
  (addf (addf (addf (addf (addf (addf (addf (addf (broadcastInDim S73728x1024 ![] bcast_S_S73728x1024 (constant S_ .f32 0x00000000#32))
    (term ![0, 0] slices_S73728x8_S73728x1_0_0 ![0, 0, 0] slices_S8x1024x3584_S1x1024x3584_0_0_0 slices_S8x3584x1024_S1x3584x1024_0_0_0 g x w1 w3 w2))
    (term ![0, 1] slices_S73728x8_S73728x1_0_1 ![1, 0, 0] slices_S8x1024x3584_S1x1024x3584_1_0_0 slices_S8x3584x1024_S1x3584x1024_1_0_0 g x w1 w3 w2))
    (term ![0, 2] slices_S73728x8_S73728x1_0_2 ![2, 0, 0] slices_S8x1024x3584_S1x1024x3584_2_0_0 slices_S8x3584x1024_S1x3584x1024_2_0_0 g x w1 w3 w2))
    (term ![0, 3] slices_S73728x8_S73728x1_0_3 ![3, 0, 0] slices_S8x1024x3584_S1x1024x3584_3_0_0 slices_S8x3584x1024_S1x3584x1024_3_0_0 g x w1 w3 w2))
    (term ![0, 4] slices_S73728x8_S73728x1_0_4 ![4, 0, 0] slices_S8x1024x3584_S1x1024x3584_4_0_0 slices_S8x3584x1024_S1x3584x1024_4_0_0 g x w1 w3 w2))
    (term ![0, 5] slices_S73728x8_S73728x1_0_5 ![5, 0, 0] slices_S8x1024x3584_S1x1024x3584_5_0_0 slices_S8x3584x1024_S1x3584x1024_5_0_0 g x w1 w3 w2))
    (term ![0, 6] slices_S73728x8_S73728x1_0_6 ![6, 0, 0] slices_S8x1024x3584_S1x1024x3584_6_0_0 slices_S8x3584x1024_S1x3584x1024_6_0_0 g x w1 w3 w2))
    (term ![0, 7] slices_S73728x8_S73728x1_0_7 ![7, 0, 0] slices_S8x1024x3584_S1x1024x3584_7_0_0 slices_S8x3584x1024_S1x3584x1024_7_0_0 g x w1 w3 w2))

/-- The reference's result. -/
def result (xs : FVec F S589824x128 .f32) (te : IVec S72 32) (na : IVec S1 32) (w1 w3 : FVec F S2x8x1024x3584 .f32)
    (w2 : FVec F S2x8x3584x1024 .f32) : FVec F S589824x128 .f32 :=
  shapeCast S589824x128 (total (gate te na) (rows xs) (layer w1) (layer w3) (layerT w2)) shapeCasts_S73728x1024_S589824x128

/-- The reference's run ends with it. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v144) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (Cert.Reference2Ideal.Value.run m ρ)
  have e : ∀ V : Valuation τ sig (Elt F), res_main_v0 V = rows (V (Proc.devRef .tc main_arg0)) := fun V => rfl
  have e2 : ∀ V : Valuation τ sig (Elt F), res_main_v2 V = layer (V (Proc.devRef .tc main_arg3)) := fun V => rfl
  have e4 : ∀ V : Valuation τ sig (Elt F), res_main_v4 V = layer (V (Proc.devRef .tc main_arg4)) := fun V => rfl
  have e6 : ∀ V : Valuation τ sig (Elt F), res_main_v6 V = layerT (V (Proc.devRef .tc main_arg5)) := fun V => rfl
  have e22 : ∀ V : Valuation τ sig (Elt F), res_main_v22 V = gate (V (Proc.devRef .tc main_arg1)) (V (Proc.devRef .tc main_arg2)) := fun V => rfl
  simp only [res_main_v98, res_main_v31, res_main_v46, res_main_v61, res_main_v76, res_main_v91, res_main_v106, res_main_v121, res_main_v136,
    e, e2, e4, e6, e22]
  unfold result total term units into
  rfl

end Terms

/-- A word's bit as a number. -/
theorem bit_num (p : Prop) [Decidable p] (a b : BitVec 1) (h : a = 1#1 ↔ p) :
    (FloatOps.uitofp (F := Ideal) FTy.f32 (IntOp.andi a b) : EReal) = if p ∧ b = 1#1 then 1 else 0 := by
  have ha : a = 0#1 ∨ a = 1#1 := (by decide : ∀ a : BitVec 1, a = 0#1 ∨ a = 1#1) a
  have hb : b = 0#1 ∨ b = 1#1 := (by decide : ∀ a : BitVec 1, a = 0#1 ∨ a = 1#1) b
  have e0 : (FloatOps.uitofp (F := Ideal) FTy.f32 (0#1) : EReal) = 0 := by
    show ((((0#1 : BitVec 1).toNat : ℝ)) : EReal) = 0
    simp
  have e1 : (FloatOps.uitofp (F := Ideal) FTy.f32 (1#1) : EReal) = 1 := by
    show ((((1#1 : BitVec 1).toNat : ℝ)) : EReal) = 1
    simp
  rcases ha with rfl | rfl <;> rcases hb with rfl | rfl
  · rw [if_neg (by rintro ⟨_, h⟩; exact absurd h (by decide))]; exact e0
  · rw [if_neg (by rintro ⟨hp, _⟩; exact absurd (h.mpr hp) (by decide))]; exact e0
  · rw [if_neg (by rintro ⟨_, h⟩; exact absurd h (by decide))]; exact e0
  · rw [if_pos ⟨h.mp rfl, rfl⟩]; exact e1

theorem eq_word (a b : BitVec 32) : IntOp.cmpi .eq a b = 1#1 ↔ a = b := by
  by_cases h : a = b
  · simp [IntOp.cmpi, h]
  · have e : (a == b) = false := by simp [h]
    simp [IntOp.cmpi, e, h]

/-- The gate: the tile's expert, on an active tile. -/
theorem gate_at (te : IVec S72 32) (na : IVec S1 32) (i : Fin 72) (r : Fin 1024) (e : Fin 8) :
    (gate (F := Ideal) te na (ix2 ⟨1024 * i.val + r.val, by omega⟩ e) : EReal)
      = if te (ix1 i) = BitVec.ofNat 32 e.val ∧ IntOp.cmpi .slt (BitVec.ofNat 32 i.val) (na (ix1 0)) = 1#1 then 1 else 0 := by
  pointwise [gate]
  exact bit_num _ _ _ (eq_word _ _)

theorem into_at (e : Fin 8) (h : S8x1024x3584.Slices ![e.val, 0, 0] S1x1024x3584) (x : FVec Ideal S73728x1024 .f32) (w : FVec Ideal S8x1024x3584 .f32)
    (r : Fin 73728) (k : Fin 3584) :
    (into (F := Ideal) ![e.val, 0, 0] h x w (ix2 r k) : EReal) = ∑ d : Fin 1024, x (ix2 r d) * w (ix3 e d k) := by
  pointwise [into]

theorem units_at (d1 d3 : FVec Ideal S73728x3584 .f32) (r : Fin 73728) (k : Fin 3584) :
    (units (F := Ideal) d1 d3 (ix2 r k) : EReal) = d1 (ix2 r k) * Ideal.logistic (d1 (ix2 r k)) * d3 (ix2 r k) := by
  pointwise [units]
  rfl

/-- One expert's term: the gate times the expert's row. -/
theorem term_at (e : Fin 8) (hp : S73728x8.Slices ![0, e.val] S73728x1) (h1 : S8x1024x3584.Slices ![e.val, 0, 0] S1x1024x3584)
    (h2 : S8x3584x1024.Slices ![e.val, 0, 0] S1x3584x1024) (g : FVec Ideal S73728x8 .f32) (x : FVec Ideal S73728x1024 .f32)
    (w1 w3 : FVec Ideal S8x1024x3584 .f32) (w2 : FVec Ideal S8x3584x1024 .f32) (r : Fin 73728) (j : Fin 1024) :
    (term (F := Ideal) ![0, e.val] hp ![e.val, 0, 0] h1 h2 g x w1 w3 w2 (ix2 r j) : EReal)
      = g (ix2 r e) * row (fun d => x (ix2 r d)) (fun d k => w1 (ix3 e d k)) (fun d k => w3 (ix3 e d k)) (fun k j => w2 (ix3 e k j)) j := by
  pointwise [term]
  simp only [units_at, into_at]
  rfl

/-- The experts' sum at a row. -/
theorem total_at (g : FVec Ideal S73728x8 .f32) (x : FVec Ideal S73728x1024 .f32)
    (w1 w3 : FVec Ideal S8x1024x3584 .f32) (w2 : FVec Ideal S8x3584x1024 .f32) (r : Fin 73728) (j : Fin 1024) :
    (total (F := Ideal) g x w1 w3 w2 (ix2 r j) : EReal)
      = ∑ e : Fin 8, g (ix2 r e) * row (fun d => x (ix2 r d)) (fun d k => w1 (ix3 e d k)) (fun d k => w3 (ix3 e d k)) (fun k j => w2 (ix3 e k j)) j := by
  have f := fun e hp h1 h2 => term_at e hp h1 h2 g x w1 w3 w2 r j
  pointwise [total]
  have t0 := f 0 slices_S73728x8_S73728x1_0_0 slices_S8x1024x3584_S1x1024x3584_0_0_0 slices_S8x3584x1024_S1x3584x1024_0_0_0
  have t1 := f 1 slices_S73728x8_S73728x1_0_1 slices_S8x1024x3584_S1x1024x3584_1_0_0 slices_S8x3584x1024_S1x3584x1024_1_0_0
  have t2 := f 2 slices_S73728x8_S73728x1_0_2 slices_S8x1024x3584_S1x1024x3584_2_0_0 slices_S8x3584x1024_S1x3584x1024_2_0_0
  have t3 := f 3 slices_S73728x8_S73728x1_0_3 slices_S8x1024x3584_S1x1024x3584_3_0_0 slices_S8x3584x1024_S1x3584x1024_3_0_0
  have t4 := f 4 slices_S73728x8_S73728x1_0_4 slices_S8x1024x3584_S1x1024x3584_4_0_0 slices_S8x3584x1024_S1x3584x1024_4_0_0
  have t5 := f 5 slices_S73728x8_S73728x1_0_5 slices_S8x1024x3584_S1x1024x3584_5_0_0 slices_S8x3584x1024_S1x3584x1024_5_0_0
  have t6 := f 6 slices_S73728x8_S73728x1_0_6 slices_S8x1024x3584_S1x1024x3584_6_0_0 slices_S8x3584x1024_S1x3584x1024_6_0_0
  have t7 := f 7 slices_S73728x8_S73728x1_0_7 slices_S8x1024x3584_S1x1024x3584_7_0_0 slices_S8x3584x1024_S1x3584x1024_7_0_0
  rw [Fin.sum_univ_eight, ← t0, ← t1, ← t2, ← t3, ← t4, ← t5, ← t6, ← t7]
  rfl

theorem rows_at (xs : FVec Ideal S589824x128 .f32) (r : Fin 73728) (d : Fin 1024) :
    (rows xs (ix2 r d) : EReal) = xs (ix2 ⟨8 * r.val + d.val / 128, by omega⟩ ⟨d.val % 128, by omega⟩) := by
  pointwise [rows]
  exact congrArg xs (by congr 1; exact Fin.ext (by show r.val * 8 + d.val / 128 = 8 * r.val + d.val / 128; omega))

theorem layer_at (w : FVec Ideal S2x8x1024x3584 .f32) (e : Fin 8) (d : Fin 1024) (k : Fin 3584) :
    (layer w (ix3 e d k) : EReal) = w (ix4 1 e d k) := by
  pointwise [layer]

theorem layerT_at (w : FVec Ideal S2x8x3584x1024 .f32) (e : Fin 8) (k : Fin 3584) (j : Fin 1024) :
    (layerT w (ix3 e k j) : EReal) = w (ix4 1 e k j) := by
  pointwise [layerT]

/-- The reference at a row: the tile's expert's row on an active tile, zero elsewhere. -/
theorem result_at (xs : FVec Ideal S589824x128 .f32) (te : IVec S72 32) (na : IVec S1 32) (w1 w3 : FVec Ideal S2x8x1024x3584 .f32)
    (w2 : FVec Ideal S2x8x3584x1024 .f32) (i : Fin 72) (e : Fin 8) (he : te (ix1 i) = BitVec.ofNat 32 e.val) (r : Fin 1024) (c : Fin 8) (l : Fin 128) :
    (result (F := Ideal) xs te na w1 w3 w2 (ix2 ⟨8 * (1024 * i.val + r.val) + c.val, by omega⟩ l) : EReal)
      = if IntOp.cmpi .slt (BitVec.ofNat 32 i.val) (na (ix1 0)) = 1#1 then
          row (fun d => xs (ix2 ⟨8 * (1024 * i.val + r.val) + d.val / 128, by omega⟩ ⟨d.val % 128, by omega⟩))
            (fun d k => w1 (ix4 1 e d k)) (fun d k => w3 (ix4 1 e d k)) (fun k j => w2 (ix4 1 e k j)) ⟨128 * c.val + l.val, by omega⟩
        else 0 := by
  have h : (result (F := Ideal) xs te na w1 w3 w2 (ix2 ⟨8 * (1024 * i.val + r.val) + c.val, by omega⟩ l) : EReal)
      = total (gate te na) (rows xs) (layer w1) (layer w3) (layerT w2) (ix2 ⟨1024 * i.val + r.val, by omega⟩ ⟨128 * c.val + l.val, by omega⟩) := by
    pointwise [result]
    have e1 : (⟨(8 * (1024 * i.val + r.val) + c.val) / 8, by omega⟩ : Fin 73728) = ⟨1024 * i.val + r.val, by omega⟩ :=
      Fin.ext (by show (8 * (1024 * i.val + r.val) + c.val) / 8 = 1024 * i.val + r.val; omega)
    have e2 : (⟨(8 * (1024 * i.val + r.val) + c.val) % 8 * 128 + l.val, by omega⟩ : Fin 1024) = ⟨128 * c.val + l.val, by omega⟩ :=
      Fin.ext (by show (8 * (1024 * i.val + r.val) + c.val) % 8 * 128 + l.val = 128 * c.val + l.val; omega)
    rw [e1, e2]
  rw [h, total_at]
  simp only [gate_at, layer_at, layerT_at, rows_at]
  rw [Finset.sum_eq_single e]
  · rw [he]
    split_ifs with a b b
    · exact one_mul _
    · exact absurd a.2 b
    · exact absurd ⟨rfl, b⟩ a
    · exact zero_mul _
  · intro e' _ hne
    rw [if_neg, zero_mul]
    rintro ⟨a, _⟩
    rw [he] at a
    apply hne
    have := congrArg BitVec.toNat a
    simp at this
    apply Fin.ext
    omega
  · intro h
    exact absurd (Finset.mem_univ _) h

end Cert.Reference2Ideal.Moe

end
-- ==== Proof.MoeFinal.lean ====
module

public import proofs.«01_k».proof.Proof.MoePay
public import proofs.«01_k».proof.Proof.MoeBlocks
public import proofs.«01_k».proof.Proof.MoeRef

/-! The experts' kernel's array after the run: the last point of every tile stores the reference's rows on an active tile, and
zero on the others. -/

@[expose] public section

set_option maxRecDepth 16384

noncomputable section

namespace Cert.Kernel2Ideal.Moe

open Cert.Ffn
open Cert.Kernel2Ideal Cert.Kernel2Ideal.Gen Idealize.ShloMosaic Idealize.ShloMosaic.TcCoe Idealize.SL.Sem

/-- Whether a tile is active, as the stored block's select reads it. -/
theorem cond_word : ∀ (i : Fin 72) (n : Fin 73), IntOp.cmpi .slt (BitVec.ofNat 32 i.val) (BitVec.ofNat 32 n.val) = 1#1 ↔ i.val < n.val := by
  decide +kernel

theorem packed_at (x : Vec Ideal S8192x128 .f32) (r d : Fin 1024) :
    (packed (F := Ideal) x (ix2 r d) : EReal) = x (ix2 ⟨8 * r.val + d.val / 128, by omega⟩ ⟨d.val % 128, by omega⟩) := rfl

variable (m : (ℓ : Loc nD τ sig) → Buf (Elt Ideal) ℓ) (hO : Ok m) (c : Dev nD)

/-- A tile's row. -/
def trow (i : Fin 72) (r d : Fin 1024) : EReal :=
  (V m c main_arg0 : Vec Ideal S589824x128 .f32) (ix2 ⟨8192 * i.val + (8 * r.val + d.val / 128), by omega⟩ ⟨d.val % 128, by omega⟩)

/-- An expert's weights. -/
def up1 (e : Fin 8) (d : Fin 1024) (k : Fin 3584) : EReal := (V m c main_v2 : Vec Ideal S16x1024x3584 .f32) (ix3 ⟨8 + e.val, by omega⟩ d k)
def up3 (e : Fin 8) (d : Fin 1024) (k : Fin 3584) : EReal := (V m c main_v3 : Vec Ideal S16x1024x3584 .f32) (ix3 ⟨8 + e.val, by omega⟩ d k)
def down (e : Fin 8) (k : Fin 3584) (j : Fin 1024) : EReal := (V m c main_v4 : Vec Ideal S16x3584x1024 .f32) (ix3 ⟨8 + e.val, by omega⟩ k j)

variable {te : Fin 72 → Fin 8} {na : Fin 73} (h : Tab (tbl m) te na)

include h

/-- The rows an active tile's first point gathers. -/
theorem xb_at (t : Fin (cfgM m hO).N) (i : Fin 72) (hi : t.val / 7 = i) (ha : i.val < na.val) (r d : Fin 1024) :
    (packed (F := Ideal) (iblk m hO c 0 t) (ix2 r d) : EReal) = trow m c i r d :=
  (packed_at _ r d).trans (iblk_x m hO c t _ _ (emb_x m hO h t i hi ha _ _))

/-- A step over rows `x` adds its run of the expert's hidden units. -/
theorem add_at (t : Fin (cfgM m hO).N) (i : Fin 72) (hi : t.val / 7 = i) (ha : i.val < na.val) (s : Fin 7) (hs : t.val % 7 = s)
    (x : Fin 1024 → EReal) (xb : Vec Ideal S1024x1024 .bf16) (acc : Vec Ideal S1024x1024 .f32) (r j : Fin 1024) (hx : ∀ d, xb (ix2 r d) = x d) :
    (k0_pay4 (F := Ideal) xb (iblk m hO c 1 t) (iblk m hO c 2 t) acc (iblk m hO c 3 t) (ix2 r j) : EReal)
      = acc (ix2 r j) + ∑ k : Fin 512, summand x (up1 m c (te i)) (up3 m c (te i)) (down m c (te i)) j (512 * s.val + k.val) := by
  refine (step_at _ _ _ _ _ r j).trans ?_
  exact congrArg (acc (ix2 r j) + ·) (run_of x (up1 m c (te i)) (up3 m c (te i)) (down m c (te i)) j s _ _ _ _ hx
    (fun d k => iblk_w1 m hO c t _ _ (emb_w1 m hO h t i hi ha s hs d k)) (fun d k => iblk_w3 m hO c t _ _ (emb_w3 m hO h t i hi ha s hs d k))
    (fun k => iblk_w2 m hO c t _ _ (emb_w2 m hO h t i hi ha s hs k j)))

omit h

variable (hH : Hyps m hO)

/-- What the scratch holds of a tile's row after step `s`: the rows and the first `s + 1` runs. -/
def Held (i : Fin 72) (e : Fin 8) (r : Fin 1024) (s : ℕ) (o : Vec Ideal S8192x128 .f32 × Vec Ideal S1024x1024 .bf16 × Vec Ideal S1024x1024 .f32) : Prop :=
  (∀ d, (o.2.1 (ix2 r d) : EReal) = trow m c i r d)
    ∧ ∀ j, (o.2.2 (ix2 r j) : EReal)
        = ∑ q ∈ Finset.range (s + 1), ∑ k : Fin 512, summand (trow m c i r) (up1 m c e) (up3 m c e) (down m c e) j (512 * q + k.val)

include h

theorem first (t : Fin (cfgM m hO).N) (i : Fin 72) (ha : i.val < na.val) (hd : t.val / 7 = i) (hm : t.val % 7 = 0) (r : Fin 1024) :
    Held m c i (te i) r 0 (outsAt0 m hO hH c t.val t.isLt) := by
  have hA := (act_iff m hO h t).mpr (lt_of_eq_of_lt hd ha)
  have h2 : ¬t.val % 7 = 6 := by omega
  have hx : ∀ d, ((outsAt0 m hO hH c t.val t.isLt).2.1 (ix2 r d) : EReal) = trow m c i r d := fun d =>
    (congrFun (xb_first m hO hH c t hA hm h2) _).trans (xb_at m hO c h t i hd ha r d)
  refine ⟨hx, fun j => ?_⟩
  refine (congrFun (acc_first m hO hH c t hA hm h2) _).trans ?_
  refine (add_at m hO c h t i hd ha 0 hm _ _ _ r j hx).trans ?_
  rw [zero_at, zero_add, Finset.sum_range_one]
  rfl

theorem next (t : Fin (cfgM m hO).N) (i : Fin 72) (ha : i.val < na.val) (hd : t.val / 7 = i) (s : ℕ) (hs : s + 1 < 6) (hm : t.val % 7 = s + 1)
    (r : Fin 1024) (p : Held m c i (te i) r s (prev m hO hH c t)) : Held m c i (te i) r (s + 1) (outsAt0 m hO hH c t.val t.isLt) := by
  have hA := (act_iff m hO h t).mpr (lt_of_eq_of_lt hd ha)
  have h0 : ¬t.val % 7 = 0 := by omega
  have h2 : ¬t.val % 7 = 6 := by omega
  refine ⟨fun d => (congrFun (xb_next m hO hH c t hA h0 h2) _).trans (p.1 d), fun j => ?_⟩
  refine (congrFun (acc_next m hO hH c t hA h0 h2) _).trans ?_
  refine (add_at m hO c h t i hd ha ⟨s + 1, by omega⟩ hm _ _ _ r j p.1).trans ?_
  rw [Finset.sum_range_succ]
  exact congrArg (· + _) (p.2 j)

/-- After an active tile's step `s`, but the last. -/
theorem along (i : Fin 72) (ha : i.val < na.val) (r : Fin 1024) (s : ℕ) (hs : s < 6) : ∀ (t : Fin (cfgM m hO).N), t.val / 7 = i → t.val % 7 = s →
    Held m c i (te i) r s (outsAt0 m hO hH c t.val t.isLt) := by
  induction s with
  | zero => exact fun t hd hm => first m hO c h hH t i ha hd hm r
  | succ s ih =>
    intro t hd hm
    refine next m hO c h hH t i ha hd s hs hm r ?_
    exact ih (by omega) ⟨t.val - 1, Nat.lt_of_le_of_lt (Nat.sub_le _ _) t.isLt⟩ (by show (t.val - 1) / 7 = i.val; omega) (by show (t.val - 1) % 7 = s; omega)

/-- What a tile's last point stores. -/
theorem stored (t : Fin (cfgM m hO).N) (i : Fin 72) (hi : t.val / 7 = i) (h6 : t.val % 7 = 6) (r : Fin 1024) (q : Fin 8) (l : Fin 128) :
    ((outsAt0 m hO hH c t.val t.isLt).1 (ix2 ⟨8 * r.val + q.val, by omega⟩ l) : EReal)
      = if i.val < na.val then row (trow m c i r) (up1 m c (te i)) (up3 m c (te i)) (down m c (te i)) ⟨128 * q.val + l.val, by omega⟩ else 0 := by
  have hg : (grid0.coords t 0).val = i.val := (at0 t).trans hi
  by_cases ha : i.val < na.val
  · rw [if_pos ha]
    obtain ⟨p1, p2⟩ := along m hO c h hH i ha r 5 (by omega) ⟨t.val - 1, Nat.lt_of_le_of_lt (Nat.sub_le _ _) t.isLt⟩
      (by show (t.val - 1) / 7 = i.val; omega) (by show (t.val - 1) % 7 = 5; omega)
    refine (congrFun (out_last m hO hH c h t ((act_iff m hO h t).mpr (lt_of_eq_of_lt hi ha)) (by omega) h6) _).trans ?_
    rw [out_at, if_pos (by rw [hg]; exact (cond_word i na).mpr ha)]
    refine (add_at m hO c h t i hi ha 6 h6 (trow m c i r) _ _ r _ p1).trans ?_
    refine (congrArg (· + _) (p2 _)).trans ?_
    rw [← row_runs]
    exact (Finset.sum_range_succ _ 6).symm
  · rw [if_neg ha]
    refine (congrFun (out_idle m hO hH c h t (fun e => ha (hi ▸ (act_iff m hO h t).mp e)) h6) _).trans ?_
    rw [out_at, if_neg (by rw [hg]; exact fun e => ha ((cond_word i na).mp e))]

omit h

theorem experts_at (w : Vec Ideal S2x8x1024x3584 .f32) (e : Fin 8) (d : Fin 1024) (k : Fin 3584) :
    (shapeCast S16x1024x3584 w shapeCasts_S2x8x1024x3584_S16x1024x3584 : Vec Ideal S16x1024x3584 .f32) (ix3 ⟨8 + e.val, by omega⟩ d k)
      = w (ix4 1 e d k) := by
  pointwise []
  rw [show (⟨(8 + e.val) / 8, by omega⟩ : Fin 2) = 1 from Fin.ext (by show (8 + e.val) / 8 = 1; omega)]

theorem expertsT_at (w : Vec Ideal S2x8x3584x1024 .f32) (e : Fin 8) (k : Fin 3584) (j : Fin 1024) :
    (shapeCast S16x3584x1024 w shapeCasts_S2x8x3584x1024_S16x3584x1024 : Vec Ideal S16x3584x1024 .f32) (ix3 ⟨8 + e.val, by omega⟩ k j)
      = w (ix4 1 e k j) := by
  pointwise []
  rw [show (⟨(8 + e.val) / 8, by omega⟩ : Fin 2) = 1 from Fin.ext (by show (8 + e.val) / 8 = 1; omega)]

/-- The tiles' blocks cover the array. -/
theorem covers : ((cfgM m hO).win 4).Covers := by
  refine ⟨(by decide : ∀ a : Fin 2, 0 < S8192x128.size a), fun β => ?_⟩
  have b0 : (β (0 : Fin 2)).val < 72 := lt_of_lt_of_eq (β (0 : Fin 2)).isLt
    (by show (S589824x128.size 0 + S8192x128.size 0 - 1) / S8192x128.size 0 = 72; decide)
  have b1 : (β (1 : Fin 2)).val < 1 := lt_of_lt_of_eq (β (1 : Fin 2)).isLt
    (by show (S589824x128.size 1 + S8192x128.size 1 - 1) / S8192x128.size 1 = 1; decide)
  have hN : 7 * (β (0 : Fin 2)).val + 6 < (cfgM m hO).N := by show _ < 504; omega
  refine ⟨⟨7 * (β (0 : Fin 2)).val + 6, hN⟩, (flush0_4 _ _).mpr (by show (7 * (β (0 : Fin 2)).val + 6) % 7 = 6; omega), fun (a : Fin 2) => ?_⟩
  rw [idx4]
  match a with
  | 0 => exact ⟨by show (7 * (β (0 : Fin 2)).val + 6) / 7 = (β (0 : Fin 2)).val; omega, .inl rfl⟩
  | 1 => exact ⟨by show 0 = (β (1 : Fin 2)).val; omega, .inl rfl⟩

/-- The array after the run is the reference's routed layer over the kernel's own arguments. -/
theorem final (hw : Words (m ((c : Thread nD τ).loc main_arg1)) (m ((c : Thread nD τ).loc main_arg2)) te na) :
    (dats m hO hH 0 c).arrAt 4 (cfgM m hO).N
      = Cert.Reference2Ideal.Moe.result (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have hc : c = 0 := Subsingleton.elim _ _
  have h : Tab (tbl m) te na := tab_of_words m (hc ▸ hw)
  refine (dats m hO hH 0 c).arrAt_eq_of_covers 4 _ ?_ fun t hf y => ?_
  · exact covers m hO
  have h6 := (flush0_4 _ t).mp hf
  blk_simp
  rw [after0_4]
  have ht : t.val < 504 := t.isLt
  obtain ⟨R, l, rfl⟩ : ∃ (R : Fin 8192) (l : Fin 128), y = ix2 R l := ⟨_, _, eq_ix2 y⟩
  obtain ⟨r, q, rfl⟩ : ∃ (r : Fin 1024) (q : Fin 8), R = ⟨8 * r.val + q.val, by omega⟩ :=
    ⟨⟨R.val / 8, by omega⟩, ⟨R.val % 8, by omega⟩, Fin.ext (by show R.val = 8 * (R.val / 8) + R.val % 8; omega)⟩
  obtain ⟨i, hi⟩ : ∃ i : Fin 72, t.val / 7 = i := ⟨⟨t.val / 7, by omega⟩, rfl⟩
  rw [emb_out m hO t i hi]
  refine (stored m hO c h hH t i hi h6 r q l).trans ?_
  have e1 : (⟨8192 * i.val + (8 * r.val + q.val), by omega⟩ : Fin 589824) = ⟨8 * (1024 * i.val + r.val) + q.val, by omega⟩ :=
    Fin.ext (by show 8192 * i.val + (8 * r.val + q.val) = 8 * (1024 * i.val + r.val) + q.val; omega)
  have e2 : trow m c i r = fun d => (m ((c : Thread nD τ).loc main_arg0) : Vec Ideal S589824x128 .f32)
      (ix2 ⟨8 * (1024 * i.val + r.val) + d.val / 128, by omega⟩ ⟨d.val % 128, by omega⟩) := by
    funext d
    refine (congrFun (V_main_arg0 m c) _).trans (congrArg (fun a => (m ((c : Thread nD τ).loc main_arg0) : Vec Ideal S589824x128 .f32) (ix2 a _)) ?_)
    exact Fin.ext (by show 8192 * i.val + (8 * r.val + d.val / 128) = 8 * (1024 * i.val + r.val) + d.val / 128; omega)
  refine Eq.trans ?_ (congrArg (fun a => Cert.Reference2Ideal.Moe.result (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 a l)) e1.symm)
  refine Eq.trans ?_ (Cert.Reference2Ideal.Moe.result_at _ _ _ _ _ _ i (te i) (hw.expert i) r q l).symm
  rw [hw.count, e2,
    show up1 m c (te i) = fun d k => (m ((c : Thread nD τ).loc main_arg3) : Vec Ideal S2x8x1024x3584 .f32) (ix4 1 (te i) d k) from
      funext fun d => funext fun k => (congrFun (V_w1 m c) _).trans (experts_at _ _ d k),
    show up3 m c (te i) = fun d k => (m ((c : Thread nD τ).loc main_arg4) : Vec Ideal S2x8x1024x3584 .f32) (ix4 1 (te i) d k) from
      funext fun d => funext fun k => (congrFun (V_w3 m c) _).trans (experts_at _ _ d k),
    show down m c (te i) = fun k j => (m ((c : Thread nD τ).loc main_arg5) : Vec Ideal S2x8x3584x1024 .f32) (ix4 1 (te i) k j) from
      funext fun k => funext fun j => (congrFun (V_w2 m c) _).trans (expertsT_at _ _ k j)]
  by_cases ha : i.val < na.val
  · rw [if_pos ha, if_pos ((cond_word i na).mpr ha)]
  · rw [if_neg ha, if_neg (fun e => ha ((cond_word i na).mp e))]

end Cert.Kernel2Ideal.Moe

end
-- ==== Proof.MoeClaim.lean ====
module

public import proofs.«01_k».proof.Defs
public import proofs.«01_k».proof.Proof.MoeFinal
public import proofs.«01_k».proof.Proof.Gen.Kernel2
public import Idealize.ShloMosaic.Lib.Quiescent

/-! The experts' kernel's claims: its frame at the machine's words and over the extended reals, and that it and the reference
leave one array. -/

@[expose] public section

set_option maxRecDepth 16384

noncomputable section

namespace Cert.Kernel2Ideal.Moe

open Cert.Kernel2Ideal Cert.Kernel2Ideal.Gen Idealize.ShloMosaic Idealize.ShloMosaic.TcCoe Idealize.SL.Sem

attribute [local instance] preFacts in
theorem frame_ideal : Cert.quiescent_Kernel2Ideal := fun m ρ h => frame m ρ (ok_of_pre m h) (hyps_of_pre m h _)

attribute [local instance] preFacts in
/-- The tables' words at the machine's words. -/
theorem words_of_bits (m : (ℓ : Loc nD τ sig) → Buf (Elt Bits) ℓ) (h : Cert.Pre_Kernel2 m) :
    ∃ te na, Words (m (((0 : Dev nD) : Thread nD τ).loc main_arg1)) (m (((0 : Dev nD) : Thread nD τ).loc main_arg2)) te na := by
  obtain ⟨a, b, c, d⟩ := h 0
  exact words_of _ _ (fun y => congrFun a y) (fun y => congrFun b y) (fun y => congrFun c y) (fun y => congrFun d y)

section Same

variable {F : FTy → Type} [FloatOps F]

/-- The program as printed and the one read over the extended reals have one body table. -/
theorem bodies_eq : @Cert.Kernel2.defs₀ F _ _ = @Cert.Kernel2Ideal.defs₀ F _ _ := by
  unfold Cert.Kernel2.defs₀ Cert.Kernel2Ideal.defs₀
  refine congrArg Defs.onTc ?_
  funext l x
  match l, x with
  | 0, (t, s) =>
    dsimp only
    rfl

theorem defs_eq : @Cert.Kernel2.defs F _ _ = @Cert.Kernel2Ideal.defs F _ _ := congrArg (Pipeline.defs Cert.Kernel2.pcfgs) bodies_eq

theorem main_eq : @Cert.Kernel2.main F _ _ = @Cert.Kernel2Ideal.main F _ _ := rfl

/-- A run of the one is a run of the other. -/
theorem run_same (s : MemSt nD τ sig (Elt F)) (Q : PUnit × MemSt nD τ sig (Elt F) → Prop)
    (h : θ_run (defs (F := F)) (onTc (τ := τ) (main (F := F))) s Q) :
    θ_run (Cert.Kernel2.defs (F := F)) (onTc (τ := Cert.Kernel2.τ) (Cert.Kernel2.main (F := F))) s Q := by
  rw [defs_eq, main_eq]
  exact h

end Same

attribute [local instance] preFacts in
/-- The run is stated over any float values, so the frame at the machine's words is the same run's. -/
theorem frame_bits : Cert.quiescent_Kernel2 := fun m ρ h => by
  obtain ⟨te, na, w⟩ := words_of_bits m h
  have t := tab_of_words (F := Bits) m w
  exact run_same _ _ (frame (F := Bits) m ρ (ok_of_tab t) (hyps_of_tab (F := Bits) m t _))

/-- The run with the output array named, the arguments unchanged. -/
theorem run_out (m : (ℓ : Loc nD τ sig) → Buf (Elt Ideal) ℓ) (ρ : Dev nD → PrngReg) (hO : Ok m) (hH : Hyps m hO) :
    θ_run (defs (F := Ideal)) (onTc (τ := τ) (main (F := Ideal))) ⟨m, fun _ => 0, ρ⟩ fun r => ∀ c : Dev nD,
      r.2.mem ((c : Thread nD τ).loc main_v5) = (dats m hO hH 0 c).arrAt 4 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 4, h.2 c⟩) (θ_run_and (run_main m ρ hO hH) (unchanged m ρ hO hH))

attribute [local instance] preFacts in
/-- What the kernel leaves and what the reference leaves are one array. -/
theorem agree : Cert.algebraic_Kernel2Ideal_Reference2Ideal := by
  intro m ρ m' ρ' hpre hagree
  obtain ⟨te, na, w⟩ := words_of_pre m hpre
  have hO := ok_of_pre m hpre
  have hH := hyps_of_pre m hpre hO
  refine ⟨_, run_out m ρ hO hH, ?_⟩
  refine (θ_run Cert.Reference2Ideal.defs _ _).mono (fun _ h c => ⟨(h c).1.trans ?_, (h c).2⟩)
    (Cert.Reference2Ideal.Moe.run_result (F := Ideal) m' ρ')
  obtain ⟨a0, a1, a2, a3, a4, a5⟩ := hagree c
  have hc : c = 0 := Subsingleton.elim _ _
  rw [a0, a1, a2, a3, a4, a5]
  exact (final m hO c hH (hc ▸ w)).symm

end Cert.Kernel2Ideal.Moe

end
-- ==== Proof.DensePay.lean ====
module

public import proofs.«01_k».proof.Proof.Ffn
public import proofs.«01_k».proof.Proof.Gen.Kernel3Ideal.Skeleton

/-! What the dense feed-forward kernel stores at a point, read at an index over the extended reals. -/

@[expose] public section

set_option maxRecDepth 16384

noncomputable section

namespace Cert.Kernel3Ideal.Dense

open Cert.Ffn
open Cert.Kernel3Ideal Cert.Kernel3Ideal.Gen Idealize.ShloMosaic Idealize.ShloMosaic.TcCoe Idealize.SL.Sem

/-- The normalised rows. -/
theorem norm_at (x : Vec Ideal S1024x1024 .f32) (g : Vec Ideal S1x1024 .f32) (i j : Fin 1024) :
    (k0_pay1 (F := Ideal) x g (ix2 i j) : EReal) = normed (fun d => x (ix2 i d)) (fun d => g (ix2 0 d)) j := by
  pointwise [k0_pay1, normed]

/-- One step's accumulator: what it held, and the step's hidden units times their rows of the down projection. -/
theorem step_at (xb : Vec Ideal S1024x1024 .bf16) (w1 w3 : Vec Ideal S1x1024x512 .f32) (acc : Vec Ideal S1024x1024 .f32)
    (w2 : Vec Ideal S1x512x1024 .f32) (i j : Fin 1024) :
    (k0_pay3 (F := Ideal) xb w1 w3 acc w2 (ix2 i j) : EReal)
      = acc (ix2 i j) + ∑ k : Fin 512, hid (fun d => xb (ix2 i d)) (fun d => w1 (ix3 0 d k)) (fun d => w3 (ix3 0 d k)) * w2 (ix3 0 k j) := by
  pointwise [k0_pay3, hid]

theorem zero_at (i j : Fin 1024) : (k0_pay2 (F := Ideal) (ix2 i j) : EReal) = 0 := by
  pointwise [k0_pay2]

theorem out_at (x : Vec Ideal S1024x1024 .f32) (acc : Vec Ideal S1024x1024 .f32) (i j : Fin 1024) :
    (k0_pay4 (F := Ideal) x acc (ix2 i j) : EReal) = x (ix2 i j) + acc (ix2 i j) := by
  pointwise [k0_pay4]

end Cert.Kernel3Ideal.Dense

end
-- ==== Proof.DenseBlocks.lean ====
module

public import proofs.«01_k».proof.Proof.Ffn
public import proofs.«01_k».proof.Proof.Gen.Kernel3Ideal.Frame
public import Idealize.ShloMosaic.Lib.Pipeline.ValueKit

/-! The dense feed-forward kernel's blocks: where each window lies at a point of the grid, what it holds there, and what the
scratch and the output hold after a point, over any float values. -/

@[expose] public section

set_option maxRecDepth 16384

noncomputable section

namespace Cert.Kernel3Ideal.Dense

open Cert.Ffn
open Cert.Kernel3Ideal Cert.Kernel3Ideal.Gen Idealize.ShloMosaic Idealize.ShloMosaic.TcCoe Idealize.SL.Sem

/-- Which block each window is at. -/
theorem idx : ∀ t : Fin cfg0.N, win0_0.index t = ![t.val / 7, 0]
    ∧ win0_1.index t = ![0, 0]
    ∧ win0_2.index t = ![1, 0, t.val % 7]
    ∧ win0_3.index t = ![1, 0, t.val % 7]
    ∧ win0_4.index t = ![1, t.val % 7, 0]
    ∧ win0_5.index t = ![t.val / 7, 0] :=
  (by decide +kernel : ∀ t : Fin grid0.N, _)

theorem emb_h (t : Fin cfg0.N) (i : Fin 32) (hi : t.val / 7 = i) (r l : Fin 1024) :
    (win0_0.blk t).view.emb (ix2 r l) = ix2 ⟨1024 * i + r, by omega⟩ l := by
  blk_ext [idx t]

theorem emb_g (t : Fin cfg0.N) (l : Fin 1024) : (win0_1.blk t).view.emb (ix2 0 l) = ix2 0 l := by
  blk_ext [idx t]

theorem emb_w1 (t : Fin cfg0.N) (s : Fin 7) (hs : t.val % 7 = s) (d : Fin 1024) (k : Fin 512) :
    (win0_2.blk t).view.emb (ix3 0 d k) = ix3 1 d ⟨512 * s + k, by omega⟩ := by
  blk_ext [idx t]

theorem emb_w3 (t : Fin cfg0.N) (s : Fin 7) (hs : t.val % 7 = s) (d : Fin 1024) (k : Fin 512) :
    (win0_3.blk t).view.emb (ix3 0 d k) = ix3 1 d ⟨512 * s + k, by omega⟩ := by
  blk_ext [idx t]

theorem emb_w2 (t : Fin cfg0.N) (s : Fin 7) (hs : t.val % 7 = s) (k : Fin 512) (l : Fin 1024) :
    (win0_4.blk t).view.emb (ix3 0 k l) = ix3 1 ⟨512 * s + k, by omega⟩ l := by
  blk_ext [idx t]

theorem emb_out (t : Fin cfg0.N) (i : Fin 32) (hi : t.val / 7 = i) (r l : Fin 1024) :
    (win0_5.blk t).view.emb (ix2 r l) = ix2 ⟨1024 * i + r, by omega⟩ l := by
  blk_ext [idx t]

section

variable {F : FTy → Type} [FloatOps F] (m : (ℓ : Loc nD τ sig) → Buf (Elt F) ℓ)

theorem iblk_h (c : Dev nD) (t : Fin cfg0.N) (y : S1024x1024.Idx) (i : S32768x1024.Idx) (h : (win0_0.blk t).view.emb y = i) :
    iblk m c 0 t y = V m c main_v0 i := by
  subst h
  rfl

theorem iblk_g (c : Dev nD) (t : Fin cfg0.N) (y : S1x1024.Idx) (i : S1x1024.Idx) (h : (win0_1.blk t).view.emb y = i) :
    iblk m c 1 t y = V m c main_v1 i := by
  subst h
  rfl

theorem iblk_w1 (c : Dev nD) (t : Fin cfg0.N) (y : S1x1024x512.Idx) (i : S2x1024x3584.Idx) (h : (win0_2.blk t).view.emb y = i) :
    iblk m c 2 t y = V m c main_arg2 i := by
  subst h
  rfl

theorem iblk_w3 (c : Dev nD) (t : Fin cfg0.N) (y : S1x1024x512.Idx) (i : S2x1024x3584.Idx) (h : (win0_3.blk t).view.emb y = i) :
    iblk m c 3 t y = V m c main_arg3 i := by
  subst h
  rfl

theorem iblk_w2 (c : Dev nD) (t : Fin cfg0.N) (y : S1x512x1024.Idx) (i : S2x3584x1024.Idx) (h : (win0_4.blk t).view.emb y = i) :
    iblk m c 4 t y = V m c main_arg4 i := by
  subst h
  rfl

theorem V_h (c : Dev nD) : V m c main_v0 = shapeCast S32768x1024 (m ((c : Thread nD τ).loc main_arg0)) shapeCasts_S8x4096x1024_S32768x1024 := by
  show StableHlo.after _ _ _ = _
  simp only [hostOps0]
  after_results_simp
  rfl

theorem V_g (c : Dev nD) : V m c main_v1 = broadcastInDim S1x1024 ![1] bcast_S1024_S1x1024_1 (m ((c : Thread nD τ).loc main_arg1)) := by
  show StableHlo.after _ _ _ = _
  simp only [hostOps0]
  after_results_simp

/-- The normalised rows after the first point of a row block. -/
theorem xn_A (c : Dev nD) (t : Fin cfg0.N) (h0 : t.val % 7 = 0) (h1 : ¬t.val % 7 = 6) :
    (outsAt0 m c t.val t.isLt).2.1 = k0_pay1 (iblk m c 0 t) (iblk m c 1 t) := by
  rw [outsAt0_A m c t h0 h1]
  frame_out

theorem acc_A (c : Dev nD) (t : Fin cfg0.N) (h0 : t.val % 7 = 0) (h1 : ¬t.val % 7 = 6) :
    (outsAt0 m c t.val t.isLt).2.2
      = k0_pay3 (k0_pay1 (iblk m c 0 t) (iblk m c 1 t)) (iblk m c 2 t) (iblk m c 3 t) k0_pay2 (iblk m c 4 t) := by
  rw [outsAt0_A m c t h0 h1]
  frame_out

theorem xn_B (c : Dev nD) (t : Fin cfg0.N) (h0 : ¬t.val % 7 = 0) (h1 : ¬t.val % 7 = 6) :
    (outsAt0 m c t.val t.isLt).2.1 = (outsAt0 m c (t.val - 1) (Nat.lt_of_le_of_lt (Nat.sub_le _ _) t.isLt)).2.1 := by
  rw [outsAt0_B m c t h0 h1]
  rfl

theorem acc_B (c : Dev nD) (t : Fin cfg0.N) (h0 : ¬t.val % 7 = 0) (h1 : ¬t.val % 7 = 6) :
    (outsAt0 m c t.val t.isLt).2.2
      = k0_pay3 (outsAt0 m c (t.val - 1) (Nat.lt_of_le_of_lt (Nat.sub_le _ _) t.isLt)).2.1 (iblk m c 2 t) (iblk m c 3 t)
          (outsAt0 m c (t.val - 1) (Nat.lt_of_le_of_lt (Nat.sub_le _ _) t.isLt)).2.2 (iblk m c 4 t) := by
  rw [outsAt0_B m c t h0 h1]
  frame_out
  exact congrArg₂ (fun x a => k0_pay3 x _ _ a _) ((Memref.isWhole_whole _).read_unread _) ((Memref.isWhole_whole _).read_unread _)

theorem out_C (c : Dev nD) (t : Fin cfg0.N) (h0 : ¬t.val % 7 = 0) (h1 : t.val % 7 = 6) :
    (outsAt0 m c t.val t.isLt).1
      = k0_pay4 (iblk m c 0 t) (k0_pay3 (outsAt0 m c (t.val - 1) (Nat.lt_of_le_of_lt (Nat.sub_le _ _) t.isLt)).2.1 (iblk m c 2 t) (iblk m c 3 t)
          (outsAt0 m c (t.val - 1) (Nat.lt_of_le_of_lt (Nat.sub_le _ _) t.isLt)).2.2 (iblk m c 4 t)) := by
  rw [outsAt0_C m c t h0 h1]
  frame_out
  exact congrArg₂ (fun x a => k0_pay4 _ (k0_pay3 x _ _ a _)) ((Memref.isWhole_whole _).read_unread _) ((Memref.isWhole_whole _).read_unread _)

end

end Cert.Kernel3Ideal.Dense

end
-- ==== Proof.DenseRef.lean ====
module

public import proofs.«01_k».proof.Proof.Ffn
public import proofs.«01_k».proof.Proof.Gen.Reference3Ideal.Run

/-! The dense feed-forward reference's result: its parts, and each read at an index over the extended reals. -/

@[expose] public section

set_option maxRecDepth 16384

noncomputable section

namespace Cert.Reference3Ideal.Dense

open Cert.Ffn
open Cert.Reference3Ideal Cert.Reference3Ideal.Gen Cert.Reference3Ideal.Value Idealize.ShloMosaic Idealize.ShloMosaic.TcCoe Idealize.SL.Sem

section Terms

variable {F : FTy → Type} [FloatOps F]

/-- The normalised residual stream. -/
def xn (h : FVec F S8x4096x1024 .f32) (g : FVec F S1024 .f32) : FVec F S8x4096x1024 .f32 :=
  mulf (mulf h (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf h h) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- A product with the layer's input projection. -/
def into (x : FVec F S8x4096x1024 .f32) (w : FVec F S2x1024x3584 .f32) : FVec F S8x4096x3584 .f32 :=
  Host.dotGeneral dot_S8x4096x1024_S1024x3584_S8x4096x3584_2_0_01_1_n_n none x
    (shapeCast _ (extractStridedSlice S1x1024x3584 ![1, 0, 0] w slices_S2x1024x3584_S1x1024x3584_1_0_0) shapeCasts_S1x1024x3584_S1024x3584)

/-- The hidden units from the two products. -/
def units (d1 d3 : FVec F S8x4096x3584 .f32) : FVec F S8x4096x3584 .f32 :=
  mulf (mulf d1 (Host.divf (broadcastInDim S8x4096x3584 ![] bcast_S_S8x4096x3584 (constant S_ .f32 0x3F800000#32))
    (addf (broadcastInDim S8x4096x3584 ![] bcast_S_S8x4096x3584 (constant S_ .f32 0x3F800000#32)) (Host.exp (Host.negf d1))))) d3

/-- The reference's result. -/
def result (h : FVec F S8x4096x1024 .f32) (g : FVec F S1024 .f32) (w1 w3 : FVec F S2x1024x3584 .f32) (w2 : FVec F S2x3584x1024 .f32) :
    FVec F S32768x1024 .f32 :=
  shapeCast _ (addf h (Host.dotGeneral dot_S8x4096x3584_S3584x1024_S8x4096x1024_2_0_01_1_n_n none (units (into (xn h g) w1) (into (xn h g) w3))
    (shapeCast _ (extractStridedSlice S1x3584x1024 ![1, 0, 0] w2 slices_S2x3584x1024_S1x3584x1024_1_0_0) shapeCasts_S1x3584x1024_S3584x1024)))
    shapeCasts_S8x4096x1024_S32768x1024

/-- The reference's run ends with it. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Cert.Reference3Ideal.Value.run m ρ)

end Terms

theorem xn_at (h : FVec Ideal S8x4096x1024 .f32) (g : FVec Ideal S1024 .f32) (b : Fin 8) (s : Fin 4096) (d : Fin 1024) :
    (xn (F := Ideal) h g (ix3 b s d) : EReal) = normed (fun e => h (ix3 b s e)) (fun e => g (ix1 e)) d := by
  pointwise [xn, normed]

theorem into_at (x : FVec Ideal S8x4096x1024 .f32) (w : FVec Ideal S2x1024x3584 .f32) (b : Fin 8) (s : Fin 4096) (k : Fin 3584) :
    (into (F := Ideal) x w (ix3 b s k) : EReal) = ∑ d : Fin 1024, x (ix3 b s d) * w (ix3 1 d k) := by
  pointwise [into]

theorem units_at (d1 d3 : FVec Ideal S8x4096x3584 .f32) (b : Fin 8) (s : Fin 4096) (k : Fin 3584) :
    (units (F := Ideal) d1 d3 (ix3 b s k) : EReal) = d1 (ix3 b s k) * Ideal.logistic (d1 (ix3 b s k)) * d3 (ix3 b s k) := by
  pointwise [units]
  rfl

/-- The reference's result at a row. -/
theorem result_at (h : FVec Ideal S8x4096x1024 .f32) (g : FVec Ideal S1024 .f32) (w1 w3 : FVec Ideal S2x1024x3584 .f32)
    (w2 : FVec Ideal S2x3584x1024 .f32) (n : Fin 32768) (j : Fin 1024) :
    (result (F := Ideal) h g w1 w3 w2 (ix2 n j) : EReal)
      = h (ix3 ⟨n.val / 4096, by omega⟩ ⟨n.val % 4096, by omega⟩ j)
        + row (normed (fun e => h (ix3 ⟨n.val / 4096, by omega⟩ ⟨n.val % 4096, by omega⟩ e)) (fun e => g (ix1 e)))
            (fun d k => w1 (ix3 1 d k)) (fun d k => w3 (ix3 1 d k)) (fun k l => w2 (ix3 1 k l)) j := by
  pointwise [result]
  simp only [units_at, into_at, xn_at]
  rfl

end Cert.Reference3Ideal.Dense

end
-- ==== Proof.DenseFinal.lean ====
module

public import proofs.«01_k».proof.Proof.DensePay
public import proofs.«01_k».proof.Proof.DenseBlocks
public import proofs.«01_k».proof.Proof.DenseRef
public import proofs.«01_k».proof.Proof.Gen.Kernel3Ideal.Value

/-! The dense feed-forward kernel's array after the run: the last point of every row block stores the residual rows plus the
reference's rows. -/

@[expose] public section

set_option maxRecDepth 16384

noncomputable section

namespace Cert.Kernel3Ideal.Dense

open Cert.Ffn
open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- A row of the residual stream as the launch finds it. -/
def resid (n : Fin 32768) (d : Fin 1024) : EReal := (V m c main_v0 : Vec Ideal S32768x1024 .f32) (ix2 n d)

/-- Its normalised row. -/
def unit (n : Fin 32768) : Fin 1024 → EReal := normed (resid m c n) (fun e => (V m c main_v1 : Vec Ideal S1x1024 .f32) (ix2 0 e))

/-- The layer's weights. -/
def up1 (d : Fin 1024) (k : Fin 3584) : EReal := (V m c main_arg2 : Vec Ideal S2x1024x3584 .f32) (ix3 1 d k)
def up3 (d : Fin 1024) (k : Fin 3584) : EReal := (V m c main_arg3 : Vec Ideal S2x1024x3584 .f32) (ix3 1 d k)
def down (k : Fin 3584) (j : Fin 1024) : EReal := (V m c main_arg4 : Vec Ideal S2x3584x1024 .f32) (ix3 1 k j)

/-- The normalised rows a row block's first point stores. -/
theorem xn_at (t : Fin cfg0.N) (i : Fin 32) (hi : t.val / 7 = i) (r d : Fin 1024) :
    (k0_pay1 (F := Ideal) (iblk m c 0 t) (iblk m c 1 t) (ix2 r d) : EReal) = unit m c ⟨1024 * i + r, by omega⟩ d := by
  rw [norm_at]
  exact congrArg₂ (fun a b => normed a b d) (funext fun e => iblk_h m c t _ _ (emb_h t i hi r e))
    (funext fun e => iblk_g m c t _ _ (emb_g t e))

/-- A step over rows `x` adds its run of hidden units. -/
theorem add_at (t : Fin cfg0.N) (s : Fin 7) (hs : t.val % 7 = s) (x : Fin 1024 → EReal) (xb : Vec Ideal S1024x1024 .bf16)
    (acc : Vec Ideal S1024x1024 .f32) (r j : Fin 1024) (hx : ∀ d, xb (ix2 r d) = x d) :
    (k0_pay3 (F := Ideal) xb (iblk m c 2 t) (iblk m c 3 t) acc (iblk m c 4 t) (ix2 r j) : EReal)
      = acc (ix2 r j) + ∑ k : Fin 512, summand x (up1 m c) (up3 m c) (down m c) j (512 * s.val + k.val) := by
  rw [step_at]
  exact congrArg (acc (ix2 r j) + ·) (run_of x (up1 m c) (up3 m c) (down m c) j s _ _ _ _ hx
    (fun d k => iblk_w1 m c t _ _ (emb_w1 t s hs d k)) (fun d k => iblk_w3 m c t _ _ (emb_w3 t s hs d k))
    (fun k => iblk_w2 m c t _ _ (emb_w2 t s hs k j)))

/-- After a row block's step `s`, but the last: the scratch holds the normalised rows and the first `s + 1` runs. -/
theorem along (i : Fin 32) (r : Fin 1024) : ∀ (s : ℕ) (hs : s < 6) (h : 7 * i.val + s < cfg0.N),
    (∀ d, ((outsAt0 m c (7 * i.val + s) h).2.1 (ix2 r d) : EReal) = unit m c ⟨1024 * i + r, by omega⟩ d)
    ∧ ∀ j, ((outsAt0 m c (7 * i.val + s) h).2.2 (ix2 r j) : EReal)
        = ∑ q ∈ Finset.range (s + 1), ∑ k : Fin 512,
            summand (unit m c ⟨1024 * i + r, by omega⟩) (up1 m c) (up3 m c) (down m c) j (512 * q + k.val)
  | 0, hs, h => by
    have hx := fun d => xn_at m c ⟨7 * i.val + 0, h⟩ i (by show (7 * i.val + 0) / 7 = i.val; omega) r d
    refine ⟨fun d => (congrFun (xn_A m c ⟨7 * i.val + 0, h⟩ (by show (7 * i.val + 0) % 7 = 0; omega) (by show ¬(7 * i.val + 0) % 7 = 6; omega)) _).trans (hx d), fun j => ?_⟩
    refine (congrFun (acc_A m c ⟨7 * i.val + 0, h⟩ (by show (7 * i.val + 0) % 7 = 0; omega) (by show ¬(7 * i.val + 0) % 7 = 6; omega)) _).trans ?_
    refine (add_at m c _ 0 (by show (7 * i.val + 0) % 7 = 0; omega) _ _ _ r j hx).trans ?_
    rw [zero_at, zero_add, Finset.sum_range_one]
    rfl
  | s + 1, hs, h => by
    obtain ⟨p1, p2⟩ := along i r s (by omega) (by omega)
    have h0 : ¬(⟨7 * i.val + (s + 1), h⟩ : Fin cfg0.N).val % 7 = 0 := by show ¬(7 * i.val + (s + 1)) % 7 = 0; omega
    have h1 : ¬(⟨7 * i.val + (s + 1), h⟩ : Fin cfg0.N).val % 7 = 6 := by show ¬(7 * i.val + (s + 1)) % 7 = 6; omega
    refine ⟨fun d => (congrFun (xn_B m c ⟨7 * i.val + (s + 1), h⟩ h0 h1) _).trans (p1 d), fun j => ?_⟩
    refine (congrFun (acc_B m c ⟨7 * i.val + (s + 1), h⟩ h0 h1) _).trans ?_
    refine (add_at m c _ ⟨s + 1, by omega⟩ (by show (7 * i.val + (s + 1)) % 7 = s + 1; omega) _ _ _ r j p1).trans ?_
    rw [Finset.sum_range_succ]
    exact congrArg (· + _) (p2 j)

/-- What a row block's last point stores. -/
theorem stored (t : Fin cfg0.N) (i : Fin 32) (hi : t.val / 7 = i) (h6 : t.val % 7 = 6) (r j : Fin 1024) :
    ((outsAt0 m c t.val t.isLt).1 (ix2 r j) : EReal)
      = resid m c ⟨1024 * i + r, by omega⟩ j + row (unit m c ⟨1024 * i + r, by omega⟩) (up1 m c) (up3 m c) (down m c) j := by
  have ht : t.val - 1 = 7 * i.val + 5 := by omega
  have hb : 7 * i.val + 5 < cfg0.N := ht ▸ Nat.lt_of_le_of_lt (Nat.sub_le _ _) t.isLt
  have same : ∀ (u : ℕ) (hu : u < cfg0.N), u = 7 * i.val + 5 → outsAt0 m c u hu = outsAt0 m c (7 * i.val + 5) hb := by
    intro u hu e
    subst e
    rfl
  obtain ⟨p1, p2⟩ := along m c i r 5 (by omega) hb
  refine (congrFun (out_C m c t (by omega) h6) _).trans ?_
  rw [same _ _ ht, out_at, add_at m c t 6 h6 (unit m c ⟨1024 * i + r, by omega⟩) _ _ r j p1, p2]
  refine congrArg₂ (· + ·) (iblk_h m c t _ _ (emb_h t i hi r j)) ?_
  rw [← row_runs]
  exact (Finset.sum_range_succ _ 6).symm

theorem rows_at (x : Vec Ideal S8x4096x1024 .f32) (n : Fin 32768) (d : Fin 1024) :
    (shapeCast S32768x1024 x shapeCasts_S8x4096x1024_S32768x1024 : Vec Ideal S32768x1024 .f32) (ix2 n d)
      = x (ix3 ⟨n.val / 4096, by omega⟩ ⟨n.val % 4096, by omega⟩ d) := by
  pointwise []

/-- The launch's inputs from the arguments. -/
theorem resid_eq (n : Fin 32768) (d : Fin 1024) : resid m c n d
    = (m ((c : Thread nD τ).loc main_arg0) : Vec Ideal S8x4096x1024 .f32) (ix3 ⟨n.val / 4096, by omega⟩ ⟨n.val % 4096, by omega⟩ d) :=
  (congrFun (V_h m c) _).trans (rows_at _ n d)

theorem gain_eq (e : Fin 1024) : (V m c main_v1 : Vec Ideal S1x1024 .f32) (ix2 0 e)
    = (m ((c : Thread nD τ).loc main_arg1) : Vec Ideal S1024 .f32) (ix1 e) := by
  rw [V_g]
  pointwise []

/-- The array after the run is the reference's dense layer over the kernel's own arguments. -/
theorem final : (dats m 0 c).arrAt 5 (cfgs 0).N
      = Cert.Reference3Ideal.Dense.result (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  have h6 := (flush0_5 t).mp hf
  blk_simp
  rw [after0_5]
  have ht : t.val < 224 := t.isLt
  obtain ⟨r, j, rfl⟩ : ∃ (r : Fin 1024) (j : Fin 1024), y = ix2 r j := ⟨_, _, eq_ix2 y⟩
  have hi : t.val / 7 = (⟨t.val / 7, by omega⟩ : Fin 32) := rfl
  rw [emb_out t _ hi]
  refine (stored m c t _ hi h6 r j).trans ?_
  rw [Cert.Reference3Ideal.Dense.result_at, unit, resid_eq,
    show up1 m c = fun d k => (m ((c : Thread nD τ).loc main_arg2) : Vec Ideal S2x1024x3584 .f32) (ix3 1 d k) from
      funext fun d => funext fun k => congrFun (V_main_arg2 m c) _,
    show up3 m c = fun d k => (m ((c : Thread nD τ).loc main_arg3) : Vec Ideal S2x1024x3584 .f32) (ix3 1 d k) from
      funext fun d => funext fun k => congrFun (V_main_arg3 m c) _,
    show down m c = fun k j => (m ((c : Thread nD τ).loc main_arg4) : Vec Ideal S2x3584x1024 .f32) (ix3 1 k j) from
      funext fun k => funext fun j => congrFun (V_main_arg4 m c) _,
    funext (gain_eq m c), funext (resid_eq m c _)]

end Cert.Kernel3Ideal.Dense

end
-- ==== Proof.lean ====
module

public import proofs.«01_k».proof.Defs
public import proofs.«01_k».proof.Proof.Gen.Kernel.Frame
public import proofs.«01_k».proof.Proof.Gen.ReferenceIdeal.Run
public import proofs.«01_k».proof.Proof.Bridge
public import proofs.«01_k».proof.Proof.Pre
public import proofs.«01_k».proof.Proof.MoeClaim
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.DenseFinal
public import Idealize.ShloMosaic.Adequacy
public import Idealize.ShloMosaic.Init
public import Idealize.ShloMosaic.Lib.Quiescent

@[expose] public section

noncomputable section

namespace Cert.Proof

open Idealize.ShloMosaic Idealize.SL.Sem

/-- What the kernel leaves and what the reference leaves are one array. -/
theorem agree : Cert.algebraic_KernelIdeal_ReferenceIdeal_pre_finite_scores (hKernelIdeal := Cert.KernelIdeal.Gen.facts)
    (hReferenceIdeal := Cert.ReferenceIdeal.Gen.facts) (hPre_finite_scores := Cert.Attn.preFacts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨p0, p1, p4, p5⟩ := hpre c
  rw [Cert.ReferenceIdeal.Attn.result_eq, a0, a1, a2, a4, a5]
  exact (Cert.KernelIdeal.Attn.final m c (Cert.Attn.finite_of _ _ p0) (Cert.Attn.finite_of _ _ p1)
    (Cert.Attn.finite_of _ _ p4) (Cert.Attn.finite_of _ _ p5)).symm

/-- The same of the dense feed-forward. -/
theorem agree_dense : Cert.algebraic_Kernel3Ideal_Reference3Ideal (hKernel3Ideal := Cert.Kernel3Ideal.Gen.facts)
    (hReference3Ideal := Cert.Reference3Ideal.Gen.facts) := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Dense.run_result (F := Ideal) m' ρ')
  obtain ⟨a0, a1, a2, a3, a4⟩ := hagree c
  rw [a0, a1, a2, a3, a4]
  exact (Cert.Kernel3Ideal.Dense.final m c).symm

/-- The frames of the references. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference2 : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Moe.run_result (F := Ideal) m ρ)

theorem frame_reference3 : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Dense.run_result (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Attn.preFacts, Cert.Kernel2Ideal.Moe.preFacts,
    fun m ρ _ => Cert.Kernel.Gen.frame m ρ, fun m ρ _ => Cert.KernelIdeal.Gen.frame m ρ,
    fun m ρ _ => Cert.KernelIdeal.Gen.frame m ρ,
    frame_reference, fun m ρ _ => frame_reference m ρ trivial,
    Cert.Kernel2Ideal.Moe.frame_bits, Cert.Kernel2Ideal.Moe.frame_ideal,
    frame_reference2, fun m ρ _ => frame_reference2 m ρ trivial,
    fun m ρ _ => Cert.Kernel3.Gen.frame m ρ, fun m ρ _ => Cert.Kernel3Ideal.Gen.frame m ρ, frame_reference3,
    trivial, agree, trivial, Cert.Kernel2Ideal.Moe.agree, trivial, agree_dense⟩

end Cert.Proof

end
